-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_finite [hPre_dy_finite : Cert.Pre_dy_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dy_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_finite [hPre_dy_finite : Cert.Pre_dy_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_dy_finite [hKernelIdeal : Cert.KernelIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_dy_finite [hReferenceIdeal : Cert.ReferenceIdeal.Facts] [hPre_dy_finite : Cert.Pre_dy_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_dy_finite [hKernelIdeal : Cert.KernelIdeal.Facts] [hReferenceIdeal : Cert.ReferenceIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_dy_finite : Cert.Pre_dy_finite.Facts),
    quiescent_Kernel (hKernel := hKernel)
    ∧ quiescent_KernelIdeal (hKernelIdeal := hKernelIdeal)
    ∧ quiescent_KernelIdeal_pre_dy_finite (hKernelIdeal := hKernelIdeal) (hPre_dy_finite := hPre_dy_finite)
    ∧ quiescent_ReferenceIdeal (hReferenceIdeal := hReferenceIdeal)
    ∧ quiescent_ReferenceIdeal_pre_dy_finite (hReferenceIdeal := hReferenceIdeal) (hPre_dy_finite := hPre_dy_finite)
    ∧ preserves_Kernel_KernelIdeal
    ∧ algebraic_KernelIdeal_ReferenceIdeal_pre_dy_finite (hKernelIdeal := hKernelIdeal) (hReferenceIdeal := hReferenceIdeal) (hPre_dy_finite := hPre_dy_finite)
-- ==== Pre_dy_finite.lean ====
abbrev S12x128x9728 : Shape := ⟨3, ![12, 128, 9728]⟩
abbrev S2560x9728 : Shape := ⟨2, ![2560, 9728]⟩
abbrev S20x76 : Shape := ⟨2, ![20, 76]⟩
abbrev S_ : Shape := ⟨0, ![]⟩

class Facts : Prop where
  bcast_S_S12x128x9728 : S_.BroadcastsInDim S12x128x9728 (![] : Fin 0 → Fin S12x128x9728.rank)
  reducesTo_S12x128x9728_S_d0_1_2 : S12x128x9728.ReducesTo [0, 1, 2] S_
  h_S_ : 0 < S_.numel

variable [Facts]

def fn {F : FTy → Type} [FloatOps F] (main_arg0 : FVec F S12x128x9728 .bf16) (main_arg1 : FVec F S2560x9728 .fp8e4m3) (main_arg2 : FVec F S20x76 .f32) : IVec S_ 1 :=
  let main_v0 : FVec F S12x128x9728 .bf16 := Host.absf main_arg0
  let main_cst : FVec F S_ .bf16 := constant S_ .bf16 0x7F7F#16
  let main_v1 : FVec F S12x128x9728 .bf16 := broadcastInDim S12x128x9728 ![] bcast_S_S12x128x9728 main_cst
  let main_v2 : IVec S12x128x9728 1 := cmpf .ole main_v0 main_v1
  let main_c : IVec S_ 1 := constantI S_ 1 1#1
  let main_v3 : IVec S_ 1 := (fun x v => Host.reduce IntOp.andi x v reducesTo_S12x128x9728_S_d0_1_2 h_S_) main_v2 main_c
  main_v3
-- ==== Kernel.lean ====
abbrev S12x128x9728 : Shape := ⟨3, ![12, 128, 9728]⟩
abbrev S2560x9728 : Shape := ⟨2, ![2560, 9728]⟩
abbrev S20x76 : Shape := ⟨2, ![20, 76]⟩
abbrev S1536x9728 : Shape := ⟨2, ![1536, 9728]⟩
abbrev S1536x2560 : Shape := ⟨2, ![1536, 2560]⟩
abbrev S1536x76 : Shape := ⟨2, ![1536, 76]⟩
abbrev S1536x512 : Shape := ⟨2, ![1536, 512]⟩
abbrev S2560x512 : Shape := ⟨2, ![2560, 512]⟩
abbrev S1536x128 : Shape := ⟨2, ![1536, 128]⟩
abbrev S2x1536x512 : Shape := ⟨3, ![2, 1536, 512]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S1x1 : Shape := ⟨2, ![1, 1]⟩
abbrev S128x512 : Shape := ⟨2, ![128, 512]⟩
abbrev S256x512 : Shape := ⟨2, ![256, 512]⟩
abbrev S1x1536x512 : Shape := ⟨3, ![1, 1536, 512]⟩
abbrev S1536x256 : Shape := ⟨2, ![1536, 256]⟩

abbrev nBuf : Space → Nat
  | .hbm => 7
  | .vmem => 10
  | .smem => 1
  | _ => 0

abbrev bufTy : (tb : Table) → Fin (tcTables nBuf tb) → BufTy
  | .hbm, ⟨0, _⟩ => ⟨S12x128x9728, .bf16⟩
  | .hbm, ⟨1, _⟩ => ⟨S2560x9728, .fp8e4m3⟩
  | .hbm, ⟨2, _⟩ => ⟨S20x76, .f32⟩
  | .hbm, ⟨3, _⟩ => ⟨S1536x9728, .bf16⟩
  | .hbm, ⟨4, _⟩ => ⟨S1536x2560, .bf16⟩
  | .hbm, ⟨5, _⟩ => ⟨S1536x9728, .fp8e4m3⟩
  | .hbm, ⟨6, _⟩ => ⟨S1536x76, .f32⟩
  | .local _ .vmem, ⟨0, _⟩ => ⟨S1536x512, .bf16⟩
  | .local _ .vmem, ⟨1, _⟩ => ⟨S1536x512, .bf16⟩
  | .local _ .vmem, ⟨2, _⟩ => ⟨S2560x512, .fp8e4m3⟩
  | .local _ .vmem, ⟨3, _⟩ => ⟨S2560x512, .fp8e4m3⟩
  | .local _ .vmem, ⟨4, _⟩ => ⟨S1536x2560, .bf16⟩
  | .local _ .vmem, ⟨5, _⟩ => ⟨S1536x512, .fp8e4m3⟩
  | .local _ .vmem, ⟨6, _⟩ => ⟨S1536x512, .fp8e4m3⟩
  | .local _ .vmem, ⟨7, _⟩ => ⟨S1536x128, .f32⟩
  | .local _ .vmem, ⟨8, _⟩ => ⟨S2x1536x512, .bf16⟩
  | .local _ .vmem, ⟨9, _⟩ => ⟨S1536x2560, .f32⟩
  | .local _ .smem, ⟨0, _⟩ => ⟨S20x76, .f32⟩
  | _, _ => ⟨S12x128x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c19_i32 : BitVec 32 := 19#32
  let v0 : BitVec 1 := Scalar.cmpi .slt arg0 c19_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_4 : BitVec 32 := 0#32
  let c12_i32 : BitVec 32 := 12#32
  let v11 : BitVec 32 := Scalar.addi c0_i32_4 c12_i32
  let c1_i32 : BitVec 32 := 1#32
  ⟨c0_i32_4, v11, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  v12
def k0_off1 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v14 : Index := Scalar.indexCast v13
  let c0 : Index := 0#32
  ![v14.toNat, 0]
def k0_off2 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v17 : Index := Scalar.indexCast v13
  let c0_6 : Index := 0#32
  ![v17.toNat, 0]
def k0_off3 (i : grid0.Coords) (k0_t1 : Fin k0_t1_loop.trips) : Fin 3 → Nat :=
  let arg0 : BitVec 32 := BitVec.ofNat 32 (i 0).val
  let c2_i32 : BitVec 32 := 2#32
  let v9 : BitVec 32 := Scalar.remsi arg0 c2_i32
  let v95 : Index := Scalar.indexCast v9
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v96 : Index := Scalar.indexCast v13
  let c0_15 : Index := 0#32
  ![v95.toNat, v96.toNat, 0]
def k0_off4 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v107 : Index := Scalar.indexCast v13
  let c128 : Index := 128#32
  ![v107.toNat, 128]
def k0_off5 (i : grid0.Coords) (k0_t1 : Fin k0_t1_loop.trips) : Fin 3 → Nat :=
  let arg0 : BitVec 32 := BitVec.ofNat 32 (i 0).val
  let c2_i32 : BitVec 32 := 2#32
  let v9 : BitVec 32 := Scalar.remsi arg0 c2_i32
  let v185 : Index := Scalar.indexCast v9
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v186 : Index := Scalar.indexCast v13
  let c128_36 : Index := 128#32
  ![v185.toNat, v186.toNat, 128]
def k0_off6 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v197 : Index := Scalar.indexCast v13
  let c256 : Index := 256#32
  ![v197.toNat, 256]
def k0_off7 (i : grid0.Coords) (k0_t1 : Fin k0_t1_loop.trips) : Fin 3 → Nat :=
  let arg0 : BitVec 32 := BitVec.ofNat 32 (i 0).val
  let c2_i32 : BitVec 32 := 2#32
  let v9 : BitVec 32 := Scalar.remsi arg0 c2_i32
  let v275 : Index := Scalar.indexCast v9
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v276 : Index := Scalar.indexCast v13
  let c256_58 : Index := 256#32
  ![v275.toNat, v276.toNat, 256]
def k0_off8 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v287 : Index := Scalar.indexCast v13
  let c384 : Index := 384#32
  ![v287.toNat, 384]
def k0_off9 (i : grid0.Coords) (k0_t1 : Fin k0_t1_loop.trips) : Fin 3 → Nat :=
  let arg0 : BitVec 32 := BitVec.ofNat 32 (i 0).val
  let c2_i32 : BitVec 32 := 2#32
  let v9 : BitVec 32 := Scalar.remsi arg0 c2_i32
  let v365 : Index := Scalar.indexCast v9
  let c0_i32_4 : BitVec 32 := 0#32
  let c1_i32 : BitVec 32 := 1#32
  let arg9 : BitVec 32 := Scf.iv c0_i32_4 c1_i32 k0_t1
  let c128_i32 : BitVec 32 := 128#32
  let v12 : BitVec 32 := Scalar.muli arg9 c128_i32
  let v13 : BitVec 32 := v12
  let v366 : Index := Scalar.indexCast v13
  let c384_80 : Index := 384#32
  ![v365.toNat, v366.toNat, 384]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off10 (i : grid0.Coords) (c0_i32_7 : BitVec 32) : Fin 2 → Nat :=
  let c0_8 : Index := 0#32
  let arg0 : BitVec 32 := BitVec.ofNat 32 (i 0).val
  let c1_i32_6 : BitVec 32 := 1#32
  let v13 : BitVec 32 := Scalar.subi arg0 c1_i32_6
  let c4_i32 : BitVec 32 := 4#32
  let v14 : BitVec 32 := Scalar.muli v13 c4_i32
  let v15 : BitVec 32 := Scalar.addi v14 c0_i32_7
  let v16 : Index := Scalar.indexCast v15
  ![0, v16.toNat]
def k0_off11 (i : grid0.Coords) (c0_i32_27 : BitVec 32) : Fin 2 → Nat :=
  let c1 : Index := 1#32
  let arg0 : BitVec 32 := BitVec.ofNat 32 (i 0).val
  let c1_i32_25 : BitVec 32 := 1#32
  let v54 : BitVec 32 := Scalar.subi arg0 c1_i32_25
  let c4_i32_26 : BitVec 32 := 4#32
  let v55 : BitVec 32 := Scalar.muli v54 c4_i32_26
  let v56 : BitVec 32 := Scalar.addi v55 c0_i32_27
  let v57 : Index := Scalar.indexCast v56
  ![1, v57.toNat]
def k0_off12 (i : grid0.Coords) : Fin 3 → Nat :=
  let arg0 : BitVec 32 := BitVec.ofNat 32 (i 0).val
  let c1_i32 : BitVec 32 := 1#32
  let v9 : BitVec 32 := Scalar.addi arg0 c1_i32
  let c2_i32 : BitVec 32 := 2#32
  let v10 : BitVec 32 := Scalar.remsi v9 c2_i32
  let v95 : Index := Scalar.indexCast v10
  let c0_46 : Index := 0#32
  let c0_47 : Index := 0#32
  ![v95.toNat, 0, 0]
def k0_off13 (i : grid0.Coords) (c0_i32_57 : BitVec 32) : Fin 2 → Nat :=
  let c2 : Index := 2#32
  let arg0 : BitVec 32 := BitVec.ofNat 32 (i 0).val
  let c1_i32_55 : BitVec 32 := 1#32
  let v107 : BitVec 32 := Scalar.subi arg0 c1_i32_55
  let c4_i32_56 : BitVec 32 := 4#32
  let v108 : BitVec 32 := Scalar.muli v107 c4_i32_56
  let v109 : BitVec 32 := Scalar.addi v108 c0_i32_57
  let v110 : Index := Scalar.indexCast v109
  ![2, v110.toNat]
def k0_off14 (i : grid0.Coords) (c0_i32_80 : BitVec 32) : Fin 2 → Nat :=
  let c3 : Index := 3#32
  let arg0 : BitVec 32 := BitVec.ofNat 32 (i 0).val
  let c1_i32_78 : BitVec 32 := 1#32
  let v148 : BitVec 32 := Scalar.subi arg0 c1_i32_78
  let c4_i32_79 : BitVec 32 := 4#32
  let v149 : BitVec 32 := Scalar.muli v148 c4_i32_79
  let v150 : BitVec 32 := Scalar.addi v149 c0_i32_80
  let v151 : Index := Scalar.indexCast v150
  ![3, v151.toNat]
def k0_off15 (i : grid0.Coords) (c0_i32_110 : BitVec 32) : Fin 2 → Nat :=
  let c4 : Index := 4#32
  let arg0 : BitVec 32 := BitVec.ofNat 32 (i 0).val
  let c1_i32_108 : BitVec 32 := 1#32
  let v201 : BitVec 32 := Scalar.subi arg0 c1_i32_108
  let c4_i32_109 : BitVec 32 := 4#32
  let v202 : BitVec 32 := Scalar.muli v201 c4_i32_109
  let v203 : BitVec 32 := Scalar.addi v202 c0_i32_110
  let v204 : Index := Scalar.indexCast v203
  ![4, v204.toNat]
def k0_off16 (i : grid0.Coords) (c0_i32_132 : BitVec 32) : Fin 2 → Nat :=
  let c5 : Index := 5#32
  let arg0 : BitVec 32 := BitVec.ofNat 32 (i 0).val
  let c1_i32_130 : BitVec 32 := 1#32
  let v242 : BitVec 32 := Scalar.subi arg0 c1_i32_130
  let c4_i32_131 : BitVec 32 := 4#32
  let v243 : BitVec 32 := Scalar.muli v242 c4_i32_131
  let v244 : BitVec 32 := Scalar.addi v243 c0_i32_132
  let v245 : Index := Scalar.indexCast v244
  ![5, v245.toNat]
def k0_off17 (i : grid0.Coords) (c0_i32_162 : BitVec 32) : Fin 2 → Nat :=
  let c6 : Index := 6#32
  let arg0 : BitVec 32 := BitVec.ofNat 32 (i 0).val
  let c1_i32_160 : BitVec 32 := 1#32
  let v295 : BitVec 32 := Scalar.subi arg0 c1_i32_160
  let c4_i32_161 : BitVec 32 := 4#32
  let v296 : BitVec 32 := Scalar.muli v295 c4_i32_161
  let v297 : BitVec 32 := Scalar.addi v296 c0_i32_162
  let v298 : Index := Scalar.indexCast v297
  ![6, v298.toNat]
def k0_off18 (i : grid0.Coords) (c0_i32_184 : BitVec 32) : Fin 2 → Nat :=
  let c7 : Index := 7#32
  let arg0 : BitVec 32 := BitVec.ofNat 32 (i 0).val
  let c1_i32_182 : BitVec 32 := 1#32
  let v336 : BitVec 32 := Scalar.subi arg0 c1_i32_182
  let c4_i32_183 : BitVec 32 := 4#32
  let v337 : BitVec 32 := Scalar.muli v336 c4_i32_183
  let v338 : BitVec 32 := Scalar.addi v337 c0_i32_184
  let v339 : Index := Scalar.indexCast v338
  ![7, v339.toNat]
def k0_off19 (i : grid0.Coords) (c0_i32_214 : BitVec 32) : Fin 2 → Nat :=
  let c8 : Index := 8#32
  let arg0 : BitVec 32 := BitVec.ofNat 32 (i 0).val
  let c1_i32_212 : BitVec 32 := 1#32
  let v389 : BitVec 32 := Scalar.subi arg0 c1_i32_212
  let c4_i32_213 : BitVec 32 := 4#32
  let v390 : BitVec 32 := Scalar.muli v389 c4_i32_213
  let v391 : BitVec 32 := Scalar.addi v390 c0_i32_214
  let v392 : Index := Scalar.indexCast v391
  ![8, v392.toNat]
def k0_off20 (i : grid0.Coords) (c0_i32_236 : BitVec 32) : Fin 2 → Nat :=
  let c9 : Index := 9#32
  let arg0 : BitVec 32 := BitVec.ofNat 32 (i 0).val
  let c1_i32_234 : BitVec 32 := 1#32
  let v430 : BitVec 32 := Scalar.subi arg0 c1_i32_234
  let c4_i32_235 : BitVec 32 := 4#32
  let v431 : BitVec 32 := Scalar.muli v430 c4_i32_235
  let v432 : BitVec 32 := Scalar.addi v431 c0_i32_236
  let v433 : Index := Scalar.indexCast v432
  ![9, v433.toNat]
def k0_off21 (i : grid0.Coords) (c0_i32_266 : BitVec 32) : Fin 2 → Nat :=
  let c10 : Index := 10#32
  let arg0 : BitVec 32 := BitVec.ofNat 32 (i 0).val
  let c1_i32_264 : BitVec 32 := 1#32
  let v483 : BitVec 32 := Scalar.subi arg0 c1_i32_264
  let c4_i32_265 : BitVec 32 := 4#32
  let v484 : BitVec 32 := Scalar.muli v483 c4_i32_265
  let v485 : BitVec 32 := Scalar.addi v484 c0_i32_266
  let v486 : Index := Scalar.indexCast v485
  ![10, v486.toNat]
def k0_off22 (i : grid0.Coords) (c0_i32_288 : BitVec 32) : Fin 2 → Nat :=
  let c11 : Index := 11#32
  let arg0 : BitVec 32 := BitVec.ofNat 32 (i 0).val
  let c1_i32_286 : BitVec 32 := 1#32
  let v524 : BitVec 32 := Scalar.subi arg0 c1_i32_286
  let c4_i32_287 : BitVec 32 := 4#32
  let v525 : BitVec 32 := Scalar.muli v524 c4_i32_287
  let v526 : BitVec 32 := Scalar.addi v525 c0_i32_288
  let v527 : Index := Scalar.indexCast v526
  ![11, v527.toNat]
def k0_off23 (i : grid0.Coords) (c0_i32_318 : BitVec 32) : Fin 2 → Nat :=
  let c12 : Index := 12#32
  let arg0 : BitVec 32 := BitVec.ofNat 32 (i 0).val
  let c1_i32_316 : BitVec 32 := 1#32
  let v577 : BitVec 32 := Scalar.subi arg0 c1_i32_316
  let c4_i32_317 : BitVec 32 := 4#32
  let v578 : BitVec 32 := Scalar.muli v577 c4_i32_317
  let v579 : BitVec 32 := Scalar.addi v578 c0_i32_318
  let v580 : Index := Scalar.indexCast v579
  ![12, v580.toNat]
def k0_off24 (i : grid0.Coords) (c0_i32_340 : BitVec 32) : Fin 2 → Nat :=
  let c13 : Index := 13#32
  let arg0 : BitVec 32 := BitVec.ofNat 32 (i 0).val
  let c1_i32_338 : BitVec 32 := 1#32
  let v618 : BitVec 32 := Scalar.subi arg0 c1_i32_338
  let c4_i32_339 : BitVec 32 := 4#32
  let v619 : BitVec 32 := Scalar.muli v618 c4_i32_339
  let v620 : BitVec 32 := Scalar.addi v619 c0_i32_340
  let v621 : Index := Scalar.indexCast v620
  ![13, v621.toNat]
def k0_off25 (i : grid0.Coords) (c0_i32_370 : BitVec 32) : Fin 2 → Nat :=
  let c14 : Index := 14#32
  let arg0 : BitVec 32 := BitVec.ofNat 32 (i 0).val
  let c1_i32_368 : BitVec 32 := 1#32
  let v671 : BitVec 32 := Scalar.subi arg0 c1_i32_368
  let c4_i32_369 : BitVec 32 := 4#32
  let v672 : BitVec 32 := Scalar.muli v671 c4_i32_369
  let v673 : BitVec 32 := Scalar.addi v672 c0_i32_370
  let v674 : Index := Scalar.indexCast v673
  ![14, v674.toNat]
def k0_off26 (i : grid0.Coords) (c0_i32_392 : BitVec 32) : Fin 2 → Nat :=
  let c15 : Index := 15#32
  let arg0 : BitVec 32 := BitVec.ofNat 32 (i 0).val
  let c1_i32_390 : BitVec 32 := 1#32
  let v712 : BitVec 32 := Scalar.subi arg0 c1_i32_390
  let c4_i32_391 : BitVec 32 := 4#32
  let v713 : BitVec 32 := Scalar.muli v712 c4_i32_391
  let v714 : BitVec 32 := Scalar.addi v713 c0_i32_392
  let v715 : Index := Scalar.indexCast v714
  ![15, v715.toNat]
def k0_off27 (i : grid0.Coords) (c0_i32_422 : BitVec 32) : Fin 2 → Nat :=
  let c16 : Index := 16#32
  let arg0 : BitVec 32 := BitVec.ofNat 32 (i 0).val
  let c1_i32_420 : BitVec 32 := 1#32
  let v765 : BitVec 32 := Scalar.subi arg0 c1_i32_420
  let c4_i32_421 : BitVec 32 := 4#32
  let v766 : BitVec 32 := Scalar.muli v765 c4_i32_421
  let v767 : BitVec 32 := Scalar.addi v766 c0_i32_422
  let v768 : Index := Scalar.indexCast v767
  ![16, v768.toNat]
def k0_off28 (i : grid0.Coords) (c0_i32_444 : BitVec 32) : Fin 2 → Nat :=
  let c17 : Index := 17#32
  let arg0 : BitVec 32 := BitVec.ofNat 32 (i 0).val
  let c1_i32_442 : BitVec 32 := 1#32
  let v806 : BitVec 32 := Scalar.subi arg0 c1_i32_442
  let c4_i32_443 : BitVec 32 := 4#32
  let v807 : BitVec 32 := Scalar.muli v806 c4_i32_443
  let v808 : BitVec 32 := Scalar.addi v807 c0_i32_444
  let v809 : Index := Scalar.indexCast v808
  ![17, v809.toNat]
def k0_off29 (i : grid0.Coords) (c0_i32_474 : BitVec 32) : Fin 2 → Nat :=
  let c18 : Index := 18#32
  let arg0 : BitVec 32 := BitVec.ofNat 32 (i 0).val
  let c1_i32_472 : BitVec 32 := 1#32
  let v859 : BitVec 32 := Scalar.subi arg0 c1_i32_472
  let c4_i32_473 : BitVec 32 := 4#32
  let v860 : BitVec 32 := Scalar.muli v859 c4_i32_473
  let v861 : BitVec 32 := Scalar.addi v860 c0_i32_474
  let v862 : Index := Scalar.indexCast v861
  ![18, v862.toNat]
def k0_off30 (i : grid0.Coords) (c0_i32_496 : BitVec 32) : Fin 2 → Nat :=
  let c19 : Index := 19#32
  let arg0 : BitVec 32 := BitVec.ofNat 32 (i 0).val
  let c1_i32_494 : BitVec 32 := 1#32
  let v900 : BitVec 32 := Scalar.subi arg0 c1_i32_494
  let c4_i32_495 : BitVec 32 := 4#32
  let v901 : BitVec 32 := Scalar.muli v900 c4_i32_495
  let v902 : BitVec 32 := Scalar.addi v901 c0_i32_496
  let v903 : Index := Scalar.indexCast v902
  ![19, v903.toNat]
def k0_cond3 (i : grid0.Coords) : BitVec 1 :=
  let arg0 : BitVec 32 := BitVec.ofNat 32 (i 0).val
  let c19_i32_2 : BitVec 32 := 19#32
  let v6 : BitVec 1 := Scalar.cmpi .eq arg0 c19_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c18_i32 : BitVec 32 := 18#32
  let v0 : BitVec 32 := Scalar.minsi arg0 c18_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c18_i32 : BitVec 32 := 18#32
  let v0 : BitVec 32 := Scalar.minsi arg0 c18_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S20x76 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S12x128x9728 : Shape := ⟨3, ![12, 128, 9728]⟩
abbrev S2560x9728 : Shape := ⟨2, ![2560, 9728]⟩
abbrev S20x76 : Shape := ⟨2, ![20, 76]⟩
abbrev S1536x9728 : Shape := ⟨2, ![1536, 9728]⟩
abbrev S1536x2560 : Shape := ⟨2, ![1536, 2560]⟩
abbrev S1536x76 : Shape := ⟨2, ![1536, 76]⟩
abbrev S1536x76x128 : Shape := ⟨3, ![1536, 76, 128]⟩
abbrev S1536x76x1 : Shape := ⟨3, ![1536, 76, 1]⟩
abbrev S20x128x76x128 : Shape := ⟨4, ![20, 128, 76, 128]⟩
abbrev S20x1x76x1 : Shape := ⟨4, ![20, 1, 76, 1]⟩

abbrev nBuf : Space → Nat
  | .hbm => 7
  | .vmem => 6
  | .smem => 0
  | _ => 0

abbrev bufTy : (tb : Table) → Fin (tcTables nBuf tb) → BufTy
  | .hbm, ⟨0, _⟩ => ⟨S12x128x9728, .bf16⟩
  | .hbm, ⟨1, _⟩ => ⟨S2560x9728, .fp8e4m3⟩
  | .hbm, ⟨2, _⟩ => ⟨S20x76, .f32⟩
  | .hbm, ⟨3, _⟩ => ⟨S1536x9728, .bf16⟩
  | .hbm, ⟨4, _⟩ => ⟨S1536x2560, .bf16⟩
  | .hbm, ⟨5, _⟩ => ⟨S1536x9728, .fp8e4m3⟩
  | .hbm, ⟨6, _⟩ => ⟨S1536x76, .f32⟩
  | .local _ .vmem, ⟨0, _⟩ => ⟨S1536x9728, .bf16⟩
  | .local _ .vmem, ⟨1, _⟩ => ⟨S2560x9728, .fp8e4m3⟩
  | .local _ .vmem, ⟨2, _⟩ => ⟨S20x76, .f32⟩
  | .local _ .vmem, ⟨3, _⟩ => ⟨S1536x2560, .bf16⟩
  | .local _ .vmem, ⟨4, _⟩ => ⟨S1536x9728, .fp8e4m3⟩
  | .local _ .vmem, ⟨5, _⟩ => ⟨S1536x76, .f32⟩
  | _, _ => ⟨S12x128x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x9728 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x9728 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x76 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x9728 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x76 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  The kernel's body, run once at a symbolic grid point, for the frame: from its eight buffers at any contents it runs to its
  return and leaves them at some contents. Three kinds of points: the first one quantises only, a middle one quantises a block and
  multiplies the one before it, the last one multiplies and writes the product out.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-- Which of the three guarded parts of the body run at a point: the first point quantises only, a middle one also multiplies, the last
    one multiplies and writes out. -/
theorem cond_cases : ∀ i : grid0.Coords,
    (k0_cond1 i = 1#1 ∧ ¬ k0_cond2 i = 1#1 ∧ ¬ k0_cond3 i = 1#1)
    ∨ (k0_cond1 i = 1#1 ∧ k0_cond2 i = 1#1 ∧ ¬ k0_cond3 i = 1#1)
    ∨ (¬ k0_cond1 i = 1#1 ∧ k0_cond2 i = 1#1 ∧ k0_cond3 i = 1#1) := by decide +kernel

/-- A buffer held whole at some contents. -/
abbrev anyOwned (c : Dev nD) {sp : Space} {S : Shape} {e : EltTy} (M : Memref sig .tc sp S e) : sProp 𝕄 :=
  iprop(∃ d, owns (c : Thread nD τ) M fullShare d)

-- RUNS
set_option maxHeartbeats 8000000 in
/-- The first point: quantise block 0. -/
theorem run_first (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole)
    (h1 : k0_cond1 i = 1#1) (h2 : ¬ k0_cond2 i = 1#1) (h3 : ¬ k0_cond3 i = 1#1) (K : PUnit → sProp 𝕄) :
    iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8
        ∗ (iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8) -∗ K ⟨⟩))
      ⊢ wp frame (wpE (defs₀ (F := F)) Variants.none c none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold anyOwned owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

set_option maxHeartbeats 8000000 in
/-- A middle point: quantise its block, multiply the one before it. -/
theorem run_mid (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole)
    (h1 : k0_cond1 i = 1#1) (h2 : k0_cond2 i = 1#1) (h3 : ¬ k0_cond3 i = 1#1) (K : PUnit → sProp 𝕄) :
    iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8
        ∗ (iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8) -∗ K ⟨⟩))
      ⊢ wp frame (wpE (defs₀ (F := F)) Variants.none c none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold anyOwned owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

set_option maxHeartbeats 8000000 in
/-- The last point: multiply the last block, write the product out. -/
theorem run_last (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole)
    (h1 : ¬ k0_cond1 i = 1#1) (h2 : k0_cond2 i = 1#1) (h3 : k0_cond3 i = 1#1) (K : PUnit → sProp 𝕄) :
    iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8
        ∗ (iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8) -∗ K ⟨⟩))
      ⊢ wp frame (wpE (defs₀ (F := F)) Variants.none c none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold anyOwned owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.Kernel.Hand

end
-- ==== Proof.KernelFrame.lean ====
/-
  The kernel's frame: every run of @main ends, the argument arrays unchanged and every semaphore counter at zero. Of what the body
  leaves in the windows' buffers and in its two scratch buffers nothing is said here.
-/
module

public import proofs.«01_k».proof.Proof.KernelRun
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The two scratch buffers, whole: the dequantised blocks' two slots and the accumulator. -/
abbrev deqM : Memref sig .tc .vmem S2x1536x512 .bf16 := Memref.whole cc0_scratch0
abbrev accM : Memref sig .tc .vmem S1536x2560 .f32 := Memref.whole cc0_scratch1

/-- What the region keeps besides the windows, conjunct by conjunct: the two scratch buffers at some contents, the generator register. -/
theorem PhiA0_eq (c : Dev nD) :
    (Pipeline.ΦA (U := UR sig nD τ) (Val := Elt F) spec0 c : sProp 𝕄)
      = iprop((anyOwned (F := F) c deqM ∗ anyOwned (F := F) c accM) ∗ ∃ r, prngReg c r) := by
  unfold Pipeline.ΦA; rw [scopedRest0_eq]; simp only [anyOwned, deqM, accM, owns_whole]; try rfl

/-- The proof data: the arrays as the region finds them; of what the body leaves, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem sound_any (c : Dev nD) (t : Fin cfg0.N) (K : PUnit → sProp 𝕄) :
    iprop(anyOwned (F := F) c (win0_0.stage (cfg0.slots t 0)) ∗ anyOwned (F := F) c (win0_1.stage (cfg0.slots t 1)) ∗ anyOwned (F := F) c (win0_2.stage (cfg0.slots t 2)) ∗ anyOwned (F := F) c (win0_3.stage (cfg0.slots t 3)) ∗ anyOwned (F := F) c (win0_4.stage (cfg0.slots t 4)) ∗ anyOwned (F := F) c (win0_5.stage (cfg0.slots t 5)) ∗ anyOwned (F := F) c deqM ∗ anyOwned (F := F) c accM
        ∗ (iprop(anyOwned (F := F) c (win0_0.stage (cfg0.slots t 0)) ∗ anyOwned (F := F) c (win0_1.stage (cfg0.slots t 1)) ∗ anyOwned (F := F) c (win0_2.stage (cfg0.slots t 2)) ∗ anyOwned (F := F) c (win0_3.stage (cfg0.slots t 3)) ∗ anyOwned (F := F) c (win0_4.stage (cfg0.slots t 4)) ∗ anyOwned (F := F) c (win0_5.stage (cfg0.slots t 5)) ∗ anyOwned (F := F) c deqM ∗ anyOwned (F := F) c accM) -∗ K ⟨⟩))
      ⊢ wp frame (wpE (defs₀ (F := F)) Variants.none c none) Set.univ (bodyAt0 t) K := by
  unfold bodyAt0
  rcases cond_cases (grid0.coords t) with ⟨h1, h2, h3⟩ | ⟨h1, h2, h3⟩ | ⟨h1, h2, h3⟩
  · exact run_first c (grid0.coords t) _ _ _ _ _ _ _ _ _ _ _ _ _ _ _ _ h1 h2 h3 K
  · exact run_mid c (grid0.coords t) _ _ _ _ _ _ _ _ _ _ _ _ _ _ _ _ h1 h2 h3 K
  · exact run_last c (grid0.coords t) _ _ _ _ _ _ _ _ _ _ _ _ _ _ _ _ h1 h2 h3 K

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

def bodyPreR (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5))

def bodyPostR (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (win0_0.stage (cfg0.slots t 0)) fullShare X)
    ∗ (∃ X, ⌜(rdats m c).after 1 t (Y 1) X⌝ ∗ owns (c : Thread nD τ) (win0_1.stage (cfg0.slots t 1)) fullShare X)
    ∗ (∃ X, ⌜(rdats m c).after 2 t (Y 2) X⌝ ∗ owns (c : Thread nD τ) (win0_2.stage (cfg0.slots t 2)) fullShare X)
    ∗ (∃ X, ⌜(rdats m c).after 3 t (Y 3) X⌝ ∗ owns (c : Thread nD τ) (win0_3.stage (cfg0.slots t 3)) fullShare X)
    ∗ (∃ X, ⌜(rdats m c).after 4 t (Y 4) X⌝ ∗ owns (c : Thread nD τ) (win0_4.stage (cfg0.slots t 4)) fullShare X)
    ∗ (∃ X, ⌜(rdats m c).after 5 t (Y 5) X⌝ ∗ owns (c : Thread nD τ) (win0_5.stage (cfg0.slots t 5)) fullShare X))

theorem sound_body (c : Dev nD) (t : Fin cfg0.N) (Y : (w : Fin cfg0.W) → (cfg0.win w).block.Idx → Elt F (cfg0.win w).elt) :
    bodyPreR m c t Y ⊢ wp frame (wpE (defs₀ (F := F)) Variants.none c none) Set.univ (bodyAt0 t) (fun _ => bodyPostR m c t Y) := by
  unfold bodyPreR bodyPostR
  rw [show (rdats m c).Φ t.succ = (rdats m c).Φ t.castSucc from rfl,
    show (rdats m c).owesAt () t.succ = (rdats m c).owesAt () t.castSucc from rfl,
    show (rdats m c).Φ t.castSucc = Pipeline.ΦA spec0 c from rfl, PhiA0_eq]
  iintro ⟨⟨⟨H7, H8⟩, Hg⟩, HO, H1, H2, H3, H4, H5, H6⟩
  iapply (sound_any c t _)
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iintro ⟨⟨%x1, H1⟩, ⟨%x2, H2⟩, ⟨%x3, H3⟩, ⟨%x4, H4⟩, ⟨%x5, H5⟩, ⟨%x6, H6⟩, H7, H8⟩
  isplitl [H7 H8 Hg]
  · isplitl [H7 H8]
    · isplitl [H7]; · iexact H7
      iexact H8
    iexact Hg
  isplitl [HO]; · iexact HO
  isplitl [H1]
  · iexists x1; isplitr; · ipureintro; trivial
    iexact H1
  isplitl [H2]
  · iexists x2; isplitr; · ipureintro; trivial
    iexact H2
  isplitl [H3]
  · iexists x3; isplitr; · ipureintro; trivial
    iexact H3
  isplitl [H4]
  · iexists x4; isplitr; · ipureintro; trivial
    iexact H4
  isplitl [H5]
  · iexists x5; isplitr; · ipureintro; trivial
    iexact H5
  iexists x6; isplitr; · ipureintro; trivial
  iexact H6

theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

-- the launch theorem's implicit arguments are found by unifying its conclusion with this one, which takes unfolding plain
-- definitions in a metavariable's type
set_option backward.isDefEq.respectTransparency.types false in
theorem run_main : θ_run defs (onTc (τ := τ) (main (F := F))) (s₀ m ρ)
    (fun r => RDat.FramePost (cfgs 0) (rdats m) (V m) r ∧ r.2.sem = fun _ => 0) :=
  Pipeline.RDat.θ_run_frame (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       (RDat.FramePost.arr_in h.1 c 2 rfl).trans (V_main_arg1 m c),
       (RDat.FramePost.arr_in h.1 c 0 rfl).trans (V_main_arg2 m c)⟩, h.2⟩) (run_main m ρ)

end Cert.Kernel.Hand

end
-- ==== Proof.KernelIdealRun.lean ====
/-
  The kernel's body, run once at a symbolic grid point, for the frame: from its eight buffers at any contents it runs to its
  return and leaves them at some contents. Three kinds of points: the first one quantises only, a middle one quantises a block and
  multiplies the one before it, the last one multiplies and writes the product out.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-- Which of the three guarded parts of the body run at a point: the first point quantises only, a middle one also multiplies, the last
    one multiplies and writes out. -/
theorem cond_cases : ∀ i : grid0.Coords,
    (k0_cond1 i = 1#1 ∧ ¬ k0_cond2 i = 1#1 ∧ ¬ k0_cond3 i = 1#1)
    ∨ (k0_cond1 i = 1#1 ∧ k0_cond2 i = 1#1 ∧ ¬ k0_cond3 i = 1#1)
    ∨ (¬ k0_cond1 i = 1#1 ∧ k0_cond2 i = 1#1 ∧ k0_cond3 i = 1#1) := by decide +kernel

/-- A buffer held whole at some contents. -/
abbrev anyOwned (c : Dev nD) {sp : Space} {S : Shape} {e : EltTy} (M : Memref sig .tc sp S e) : sProp 𝕄 :=
  iprop(∃ d, owns (c : Thread nD τ) M fullShare d)

set_option maxHeartbeats 8000000 in
set_option warn.classDefReducibility false in
/-- The quantising loop, for the frame: the block it reads stays, the three buffers it writes hold some contents. -/
def anyLoop (𝒱 : Variants) (c : Dev nD) (bd : Option 𝒱.V) (E : Set ℕ) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole) (k0_h1 : k0_cond1 i = 1#1)
    (f2 : BufTy.Contents (Elt F) arg2.view.ty) :
    LoopInvTy_k0_t1 (F := F) Unit ℕ (UR sig nD τ) ℕ 𝒱 c bd E i arg1 harg1 arg2 harg2 arg3 harg3 arg4 harg4 arg5 harg5 arg6 harg6 arg7 harg7 arg8 harg8 (BitVec.ofNat 32 (i 0).val) k0_h1 (Scalar.remsi (BitVec.ofNat 32 (i 0).val) 2#32) (iota .tc S128x128 32 [1] iota_S128x128_d1_w32) where
  inv := fun _ _ => iprop((arg2.view.loc (c : Thread nD τ) ↦[arg2.view.set]{fullShare} f2) ∗ (∃ g, (arg5.view.loc (c : Thread nD τ) ↦[arg5.view.set]{fullShare} g)) ∗ (∃ g, (arg6.view.loc (c : Thread nD τ) ↦[arg6.view.set]{fullShare} g)) ∗ (∃ g, (arg7.view.loc (c : Thread nD τ) ↦[arg7.view.set]{fullShare} g)))
  step k acc := by
    have hk : k.val < 12 := Nat.lt_of_lt_of_le k.isLt k0_t1_abs.2.1
    iintro ⟨H2, ⟨%g5, H5⟩, ⟨%g6, H6⟩, ⟨%g7, H7⟩⟩
    unfold k0_t1_body
    sl_exec
    sl_step
    isplitl [H2]; · iexact H2
    isplitl [H5]; · iexists _; iexact H5
    isplitl [H6]; · iexists _; iexact H6
    iexists _; iexact H7

set_option maxHeartbeats 8000000 in
/-- The first point: quantise block 0. -/
theorem run_first (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole)
    (h1 : k0_cond1 i = 1#1) (h2 : ¬ k0_cond2 i = 1#1) (h3 : ¬ k0_cond3 i = 1#1) (K : PUnit → sProp 𝕄) :
    iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8
        ∗ (iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8) -∗ K ⟨⟩))
      ⊢ wp frame (wpE (defs₀ (F := F)) Variants.none c none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold anyOwned owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  let L := anyLoop (F := F) Variants.none c none Set.univ i arg1 harg1 arg2 harg2 arg3 harg3 arg4 harg4 arg5 harg5 arg6 harg6 arg7 harg7 arg8 harg8 h1 f2
  sl_exec (disch := first | sl_exact h1 | sl_exact h2 | sl_exact h3)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

set_option maxHeartbeats 8000000 in
/-- A middle point: quantise its block, multiply the one before it. -/
theorem run_mid (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole)
    (h1 : k0_cond1 i = 1#1) (h2 : k0_cond2 i = 1#1) (h3 : ¬ k0_cond3 i = 1#1) (K : PUnit → sProp 𝕄) :
    iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8
        ∗ (iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8) -∗ K ⟨⟩))
      ⊢ wp frame (wpE (defs₀ (F := F)) Variants.none c none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold anyOwned owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  let L := anyLoop (F := F) Variants.none c none Set.univ i arg1 harg1 arg2 harg2 arg3 harg3 arg4 harg4 arg5 harg5 arg6 harg6 arg7 harg7 arg8 harg8 h1 f2
  sl_exec (disch := first | sl_exact h1 | sl_exact h2 | sl_exact h3)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

set_option maxHeartbeats 8000000 in
/-- The last point: multiply the last block, write the product out. -/
theorem run_last (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole)
    (h1 : ¬ k0_cond1 i = 1#1) (h2 : k0_cond2 i = 1#1) (h3 : k0_cond3 i = 1#1) (K : PUnit → sProp 𝕄) :
    iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8
        ∗ (iprop(anyOwned (F := F) c arg1 ∗ anyOwned (F := F) c arg2 ∗ anyOwned (F := F) c arg3 ∗ anyOwned (F := F) c arg4 ∗ anyOwned (F := F) c arg5 ∗ anyOwned (F := F) c arg6 ∗ anyOwned (F := F) c arg7 ∗ anyOwned (F := F) c arg8) -∗ K ⟨⟩))
      ⊢ wp frame (wpE (defs₀ (F := F)) Variants.none c none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold anyOwned owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.KernelIdeal.Hand

end
-- ==== Proof.KernelIdealFrame.lean ====
/-
  The kernel's frame: every run of @main ends, the argument arrays unchanged and every semaphore counter at zero. Of what the body
  leaves in the windows' buffers and in its two scratch buffers nothing is said here.
-/
module

public import proofs.«01_k».proof.Proof.KernelIdealRun
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The two scratch buffers, whole: the dequantised blocks' two slots and the accumulator. -/
abbrev deqM : Memref sig .tc .vmem S2x1536x512 .bf16 := Memref.whole cc0_scratch0
abbrev accM : Memref sig .tc .vmem S1536x2560 .f32 := Memref.whole cc0_scratch1

/-- What the region keeps besides the windows, conjunct by conjunct: the two scratch buffers at some contents, the generator register. -/
theorem PhiA0_eq (c : Dev nD) :
    (Pipeline.ΦA (U := UR sig nD τ) (Val := Elt F) spec0 c : sProp 𝕄)
      = iprop((anyOwned (F := F) c deqM ∗ anyOwned (F := F) c accM) ∗ ∃ r, prngReg c r) := by
  unfold Pipeline.ΦA; rw [scopedRest0_eq]; simp only [anyOwned, deqM, accM, owns_whole]; try rfl

/-- The proof data: the arrays as the region finds them; of what the body leaves, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem sound_any (c : Dev nD) (t : Fin cfg0.N) (K : PUnit → sProp 𝕄) :
    iprop(anyOwned (F := F) c (win0_0.stage (cfg0.slots t 0)) ∗ anyOwned (F := F) c (win0_1.stage (cfg0.slots t 1)) ∗ anyOwned (F := F) c (win0_2.stage (cfg0.slots t 2)) ∗ anyOwned (F := F) c (win0_3.stage (cfg0.slots t 3)) ∗ anyOwned (F := F) c (win0_4.stage (cfg0.slots t 4)) ∗ anyOwned (F := F) c (win0_5.stage (cfg0.slots t 5)) ∗ anyOwned (F := F) c deqM ∗ anyOwned (F := F) c accM
        ∗ (iprop(anyOwned (F := F) c (win0_0.stage (cfg0.slots t 0)) ∗ anyOwned (F := F) c (win0_1.stage (cfg0.slots t 1)) ∗ anyOwned (F := F) c (win0_2.stage (cfg0.slots t 2)) ∗ anyOwned (F := F) c (win0_3.stage (cfg0.slots t 3)) ∗ anyOwned (F := F) c (win0_4.stage (cfg0.slots t 4)) ∗ anyOwned (F := F) c (win0_5.stage (cfg0.slots t 5)) ∗ anyOwned (F := F) c deqM ∗ anyOwned (F := F) c accM) -∗ K ⟨⟩))
      ⊢ wp frame (wpE (defs₀ (F := F)) Variants.none c none) Set.univ (bodyAt0 t) K := by
  unfold bodyAt0
  rcases cond_cases (grid0.coords t) with ⟨h1, h2, h3⟩ | ⟨h1, h2, h3⟩ | ⟨h1, h2, h3⟩
  · exact run_first c (grid0.coords t) _ _ _ _ _ _ _ _ _ _ _ _ _ _ _ _ h1 h2 h3 K
  · exact run_mid c (grid0.coords t) _ _ _ _ _ _ _ _ _ _ _ _ _ _ _ _ h1 h2 h3 K
  · exact run_last c (grid0.coords t) _ _ _ _ _ _ _ _ _ _ _ _ _ _ _ _ h1 h2 h3 K

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

def bodyPreR (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5))

def bodyPostR (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (win0_0.stage (cfg0.slots t 0)) fullShare X)
    ∗ (∃ X, ⌜(rdats m c).after 1 t (Y 1) X⌝ ∗ owns (c : Thread nD τ) (win0_1.stage (cfg0.slots t 1)) fullShare X)
    ∗ (∃ X, ⌜(rdats m c).after 2 t (Y 2) X⌝ ∗ owns (c : Thread nD τ) (win0_2.stage (cfg0.slots t 2)) fullShare X)
    ∗ (∃ X, ⌜(rdats m c).after 3 t (Y 3) X⌝ ∗ owns (c : Thread nD τ) (win0_3.stage (cfg0.slots t 3)) fullShare X)
    ∗ (∃ X, ⌜(rdats m c).after 4 t (Y 4) X⌝ ∗ owns (c : Thread nD τ) (win0_4.stage (cfg0.slots t 4)) fullShare X)
    ∗ (∃ X, ⌜(rdats m c).after 5 t (Y 5) X⌝ ∗ owns (c : Thread nD τ) (win0_5.stage (cfg0.slots t 5)) fullShare X))

theorem sound_body (c : Dev nD) (t : Fin cfg0.N) (Y : (w : Fin cfg0.W) → (cfg0.win w).block.Idx → Elt F (cfg0.win w).elt) :
    bodyPreR m c t Y ⊢ wp frame (wpE (defs₀ (F := F)) Variants.none c none) Set.univ (bodyAt0 t) (fun _ => bodyPostR m c t Y) := by
  unfold bodyPreR bodyPostR
  rw [show (rdats m c).Φ t.succ = (rdats m c).Φ t.castSucc from rfl,
    show (rdats m c).owesAt () t.succ = (rdats m c).owesAt () t.castSucc from rfl,
    show (rdats m c).Φ t.castSucc = Pipeline.ΦA spec0 c from rfl, PhiA0_eq]
  iintro ⟨⟨⟨H7, H8⟩, Hg⟩, HO, H1, H2, H3, H4, H5, H6⟩
  iapply (sound_any c t _)
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iintro ⟨⟨%x1, H1⟩, ⟨%x2, H2⟩, ⟨%x3, H3⟩, ⟨%x4, H4⟩, ⟨%x5, H5⟩, ⟨%x6, H6⟩, H7, H8⟩
  isplitl [H7 H8 Hg]
  · isplitl [H7 H8]
    · isplitl [H7]; · iexact H7
      iexact H8
    iexact Hg
  isplitl [HO]; · iexact HO
  isplitl [H1]
  · iexists x1; isplitr; · ipureintro; trivial
    iexact H1
  isplitl [H2]
  · iexists x2; isplitr; · ipureintro; trivial
    iexact H2
  isplitl [H3]
  · iexists x3; isplitr; · ipureintro; trivial
    iexact H3
  isplitl [H4]
  · iexists x4; isplitr; · ipureintro; trivial
    iexact H4
  isplitl [H5]
  · iexists x5; isplitr; · ipureintro; trivial
    iexact H5
  iexists x6; isplitr; · ipureintro; trivial
  iexact H6

theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

-- the launch theorem's implicit arguments are found by unifying its conclusion with this one, which takes unfolding plain
-- definitions in a metavariable's type
set_option backward.isDefEq.respectTransparency.types false in
theorem run_main : θ_run defs (onTc (τ := τ) (main (F := F))) (s₀ m ρ)
    (fun r => RDat.FramePost (cfgs 0) (rdats m) (V m) r ∧ r.2.sem = fun _ => 0) :=
  Pipeline.RDat.θ_run_frame (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       (RDat.FramePost.arr_in h.1 c 2 rfl).trans (V_main_arg1 m c),
       (RDat.FramePost.arr_in h.1 c 0 rfl).trans (V_main_arg2 m c)⟩, h.2⟩) (run_main m ρ)

end Cert.KernelIdeal.Hand

end
-- ==== Proof.Quant.lean ====
/-
  The quantiser of one group of 128 values, over the extended reals: what the kernel computes of a group, what the reference
  computes of it, and that the two agree on finite values. The kernel finds the exponent word of the scale bit by bit; the
  reference takes `⌊log₂ y⌋ + 1`.
-/
module

public import Idealize.ShloMosaic.Lib.Pointwise

@[expose] public section

noncomputable section

namespace Cert.Quant

open Idealize.ShloMosaic

/-- The number that a 32-bit word is as a float. -/
abbrev word (e : BitVec 32) : EReal := Ideal.ofBits .f32 e

/-- One step of the search for the exponent word: keep the bit if the word with it is still at most `y`. -/
def step (y : EReal) (b e : BitVec 32) : BitVec 32 := if word (e + b) ≤ y then e + b else e

/-- The greatest word with an empty significand that is, as a float, at most `y`. -/
def expBits (y : EReal) : BitVec 32 :=
  step y 0x00800000#32 (step y 0x01000000#32 (step y 0x02000000#32 (step y 0x04000000#32
    (step y 0x08000000#32 (step y 0x10000000#32 (step y 0x20000000#32 (step y 0x40000000#32 0#32)))))))

/-- The scale of a group, from its peak over the format's greatest value; -/
def scaleOf (y : EReal) : EReal := word (if expBits y = 0#32 then 0x3F800000#32 else expBits y + 0x00800000#32)

/-- and its inverse. -/
def invOf (y : EReal) : EReal := word (if expBits y = 0#32 then 0x3F800000#32 else 0x7E800000#32 - expBits y)

/-- A group's greatest magnitude over the format's greatest value. -/
def peak (f : Fin 128 → EReal) : EReal :=
  Finset.univ.fold max ⊥ (fun l => max (f l) (-(f l))) * word 0x3B124925#32

/-- A group's scale, its codes, and its values as the codes and the scale give them back. -/
def gscale (f : Fin 128 → EReal) : EReal := scaleOf (peak f)
def gcode (f : Fin 128 → EReal) (l : Fin 128) : EReal :=
  min (word 0x43E00000#32) (max (word 0xC3E00000#32) (f l * invOf (peak f)))
def gdeq (f : Fin 128 → EReal) (l : Fin 128) : EReal := gcode f l * gscale f

/-- The reference's exponent of the scale. -/
def refExp (y : EReal) : EReal :=
  if y < word 0x00800000#32 then 0
  else Ideal.liftRound Int.floor (Ideal.div (Ideal.log y) (Ideal.log (word 0x40000000#32))) + 1

/-! ## The words' values -/

/-- The word whose exponent field is `n`, its significand empty. -/
abbrev pw (n : ℕ) : BitVec 32 := BitVec.ofNat 32 (n * 2 ^ 23)

theorem word_pw (n : ℕ) (h1 : 1 ≤ n) (h2 : n ≤ 254) : word (pw n) = (((2 : ℝ) ^ ((n : ℤ) - 127) : ℝ) : EReal) := by
  have hneg : (pw n).extractLsb' 31 1 = 0#1 := by interval_cases n <;> rfl
  have hex : ((pw n).extractLsb' 23 8).toNat = n := by interval_cases n <;> rfl
  have hfr : ((pw n).extractLsb' 0 23).toNat = 0 := by interval_cases n <;> rfl
  show Ideal.ieee 8 23 (pw n) = _
  unfold Ideal.ieee
  simp only [hneg, hex, hfr, Nat.reduceAdd]
  rw [if_neg (by omega), if_neg (by omega)]
  congr 1
  have h : (2 : ℝ) ^ ((n : ℤ) - 127) = 2 ^ (23 : ℤ) * 2 ^ ((n : ℤ) - 127 - 23) := by
    rw [← zpow_add₀ (by norm_num)]; congr 1; ring
  rw [h]
  norm_num

theorem word_pw_255 : word (pw 255) = ⊤ := by
  show Ideal.ieee 8 23 (pw 255) = _
  unfold Ideal.ieee
  rw [if_pos (by rfl), if_pos (by rfl), if_neg (by decide)]

theorem word_two : word 0x40000000#32 = ((2 : ℝ) : EReal) := by
  have h := word_pw 128 (by norm_num) (by norm_num)
  rw [show pw 128 = 0x40000000#32 from rfl] at h
  rw [h]; norm_num

theorem word_one : word 0x3F800000#32 = ((1 : ℝ) : EReal) := by
  have h := word_pw 127 (by norm_num) (by norm_num)
  rw [show pw 127 = 0x3F800000#32 from rfl] at h
  rw [h]; norm_num

theorem word_tiny : word 0x00800000#32 = (((2 : ℝ) ^ (-126 : ℤ) : ℝ) : EReal) := by
  have h := word_pw 1 (by norm_num) (by norm_num)
  rw [show pw 1 = 0x00800000#32 from rfl] at h
  rw [h]; norm_num

/-! ## The search -/

/-- The same search over exponent fields, against a known answer `k`. -/
def nstep (k b n : ℕ) : ℕ := if n + b ≤ k then n + b else n

theorem nsearch : ∀ k : Fin 256,
    nstep k 1 (nstep k 2 (nstep k 4 (nstep k 8 (nstep k 16 (nstep k 32 (nstep k 64 (nstep k 128 0))))))) = k := by decide +kernel

theorem nstep_le (k b n : ℕ) : nstep k b n ≤ n + b := by unfold nstep; split <;> omega

/-- If the words at most `y` are those whose field is at most `k`, a step over words is a step over fields. -/
theorem step_pw (y : EReal) (k : ℕ) (hk : ∀ n, 1 ≤ n → n ≤ 255 → (word (pw n) ≤ y ↔ n ≤ k)) (b n : ℕ) (hb : 1 ≤ b)
    (hn : n + b ≤ 255) : step y (pw b) (pw n) = pw (nstep k b n) := by
  have hadd : pw n + pw b = pw (n + b) := by
    unfold pw; rw [add_mul, BitVec.ofNat_add]
  unfold step nstep
  rw [hadd]
  by_cases h : n + b ≤ k
  · rw [if_pos h, if_pos ((hk _ (by omega) hn).mpr h)]
  · rw [if_neg h, if_neg (fun h' => h ((hk _ (by omega) hn).mp h'))]

theorem expBits_eq (y : EReal) (k : ℕ) (hk : ∀ n, 1 ≤ n → n ≤ 255 → (word (pw n) ≤ y ↔ n ≤ k)) (hk' : k < 256) :
    expBits y = pw k := by
  have h0 := nstep_le k 128 0
  have h1 := nstep_le k 64 (nstep k 128 0)
  have h2 := nstep_le k 32 (nstep k 64 (nstep k 128 0))
  have h3 := nstep_le k 16 (nstep k 32 (nstep k 64 (nstep k 128 0)))
  have h4 := nstep_le k 8 (nstep k 16 (nstep k 32 (nstep k 64 (nstep k 128 0))))
  have h5 := nstep_le k 4 (nstep k 8 (nstep k 16 (nstep k 32 (nstep k 64 (nstep k 128 0)))))
  have h6 := nstep_le k 2 (nstep k 4 (nstep k 8 (nstep k 16 (nstep k 32 (nstep k 64 (nstep k 128 0))))))
  unfold expBits
  rw [show (0x00800000#32) = pw 1 from rfl, show (0x01000000#32) = pw 2 from rfl, show (0x02000000#32) = pw 4 from rfl,
    show (0x04000000#32) = pw 8 from rfl, show (0x08000000#32) = pw 16 from rfl, show (0x10000000#32) = pw 32 from rfl,
    show (0x20000000#32) = pw 64 from rfl, show (0x40000000#32) = pw 128 from rfl, show (0#32) = pw 0 from rfl]
  rw [step_pw y k hk 128 _ (by norm_num) (by omega), step_pw y k hk 64 _ (by norm_num) (by omega),
    step_pw y k hk 32 _ (by norm_num) (by omega), step_pw y k hk 16 _ (by norm_num) (by omega),
    step_pw y k hk 8 _ (by norm_num) (by omega), step_pw y k hk 4 _ (by norm_num) (by omega),
    step_pw y k hk 2 _ (by norm_num) (by omega), step_pw y k hk 1 _ (by norm_num) (by omega)]
  exact congrArg pw (nsearch ⟨k, hk'⟩)

/-! ## The two scales -/

theorem pow_two (z : ℤ) : Ideal.pow (word 0x40000000#32) (((z : ℝ) : ℝ) : EReal) = (((2 : ℝ) ^ z : ℝ) : EReal) := by
  rw [word_two]
  show ((Real.rpow 2 (z : ℝ) : ℝ) : EReal) = _
  congr 1
  exact Real.rpow_intCast 2 z

/-- The kernel's scale and its inverse are the reference's, wherever the peak is finite and not absurdly great. -/
theorem scale_eq (r : ℝ) (h0 : 0 ≤ r) (hr : r < (2 : ℝ) ^ (126 : ℤ)) :
    Ideal.pow (word 0x40000000#32) (refExp r) = scaleOf r ∧ Ideal.pow (word 0x40000000#32) (0 - refExp r) = invOf r := by
  by_cases hs : r < (2 : ℝ) ^ (-126 : ℤ)
  · -- a peak below every normal number
    have hk : expBits r = pw 0 := expBits_eq r 0 (fun n h1 h2 => by
      refine ⟨fun h => absurd h (not_le.mpr ?_), fun h => by omega⟩
      rcases Nat.lt_or_ge n 255 with h3 | h3
      · rw [word_pw n h1 (by omega)]
        exact EReal.coe_lt_coe_iff.mpr (lt_of_lt_of_le hs (zpow_le_zpow_right₀ (by norm_num) (by omega)))
      · obtain rfl : n = 255 := by omega
        rw [word_pw_255]; exact EReal.coe_lt_top r) (by norm_num)
    have he : refExp r = ((((0 : ℤ) : ℝ) : ℝ) : EReal) := by
      unfold refExp; rw [if_pos (by rw [word_tiny]; exact EReal.coe_lt_coe_iff.mpr hs)]; simp
    have he' : 0 - refExp r = ((((0 : ℤ) : ℝ) : ℝ) : EReal) := by rw [he]; simp
    rw [he', he, pow_two]
    unfold scaleOf invOf
    rw [hk, if_pos (show pw 0 = 0#32 from rfl), if_pos (show pw 0 = 0#32 from rfl), word_one]
    simp
  · rw [not_lt] at hs
    have hpos : 0 < r := lt_of_lt_of_le (by positivity) hs
    -- the peak's binade
    obtain ⟨z, hz1, hz2⟩ := exists_mem_Ico_zpow hpos (show (1 : ℝ) < 2 by norm_num)
    have hzlo : -126 ≤ z := by
      by_contra hcon
      have : (2 : ℝ) ^ (z + 1) ≤ 2 ^ (-126 : ℤ) := zpow_le_zpow_right₀ (by norm_num) (by omega)
      linarith
    have hzhi : z < 126 := by
      by_contra hcon
      have : (2 : ℝ) ^ (126 : ℤ) ≤ 2 ^ z := zpow_le_zpow_right₀ (by norm_num) (by omega)
      linarith
    obtain ⟨k, hkz⟩ : ∃ k : ℕ, (k : ℤ) = z + 127 := ⟨(z + 127).toNat, Int.toNat_of_nonneg (by omega)⟩
    have hk1 : 1 ≤ k := by omega
    have hk2 : k ≤ 252 := by omega
    have hk : expBits r = pw k := expBits_eq r k (fun n h1 h2 => by
      rcases Nat.lt_or_ge n 255 with h3 | h3
      · rw [word_pw n h1 (by omega), EReal.coe_le_coe_iff]
        refine ⟨fun h => ?_, fun h => le_trans (zpow_le_zpow_right₀ (by norm_num) (by omega)) hz1⟩
        by_contra hcon
        have : (2 : ℝ) ^ (z + 1) ≤ 2 ^ ((n : ℤ) - 127) := zpow_le_zpow_right₀ (by norm_num) (by omega)
        linarith
      · obtain rfl : n = 255 := by omega
        rw [word_pw_255]
        exact ⟨fun h => absurd h (not_le.mpr (EReal.coe_lt_top r)), fun h => by omega⟩) (by omega)
    have hne : ¬ pw k = 0#32 := by
      intro h
      have := congrArg BitVec.toNat h
      simp only [pw, BitVec.toNat_ofNat] at this
      omega
    have hl2 : (0 : ℝ) < Real.log 2 := Real.log_pos (by norm_num)
    have hfl : ⌊Real.log r / Real.log 2⌋ = z := by
      rw [Int.floor_eq_iff]
      constructor
      · rw [le_div_iff₀ hl2, ← Real.log_zpow]
        exact Real.log_le_log (by positivity) hz1
      · rw [div_lt_iff₀ hl2]
        have := Real.log_lt_log hpos hz2
        rw [Real.log_zpow] at this
        push_cast at this ⊢
        exact this
    have he : refExp r = (((((z + 1 : ℤ)) : ℝ) : ℝ) : EReal) := by
      unfold refExp
      rw [if_neg (by rw [word_tiny, EReal.coe_lt_coe_iff]; exact not_lt.mpr hs), word_two]
      have e1 : Ideal.log ((r : ℝ) : EReal) = ((Real.log r : ℝ) : EReal) := by
        show (if r ≤ 0 then ⊥ else ((Real.log r : ℝ) : EReal)) = _
        rw [if_neg (not_le.mpr hpos)]
      have e2 : Ideal.log ((2 : ℝ) : EReal) = ((Real.log 2 : ℝ) : EReal) := by
        show (if (2 : ℝ) ≤ 0 then ⊥ else ((Real.log 2 : ℝ) : EReal)) = _
        rw [if_neg (by norm_num)]
      have e3 : Ideal.div ((Real.log r : ℝ) : EReal) ((Real.log 2 : ℝ) : EReal) = ((Real.log r / Real.log 2 : ℝ) : EReal) := by
        unfold Ideal.div
        rw [if_neg (by exact_mod_cast hl2.ne'), ← EReal.coe_inv, ← EReal.coe_mul, div_eq_mul_inv]
      rw [e1, e2, e3]
      show (((⌊Real.log r / Real.log 2⌋ : ℤ) : ℝ) : EReal) + 1 = _
      rw [hfl]
      push_cast
      rfl
    have he' : 0 - refExp r = (((((-(z + 1) : ℤ)) : ℝ) : ℝ) : EReal) := by
      rw [he, zero_sub, ← EReal.coe_neg]; push_cast; rfl
    rw [he', he, pow_two, pow_two]
    unfold scaleOf invOf
    rw [hk, if_neg hne, if_neg hne]
    have ha : pw k + 0x00800000#32 = pw (k + 1) := by
      rw [show (0x00800000#32) = pw 1 from rfl]; unfold pw; rw [add_mul, BitVec.ofNat_add]
    have hb : 0x7E800000#32 - pw k = pw (253 - k) := by
      interval_cases k <;> rfl
    rw [ha, hb, word_pw _ (by omega) (by omega), word_pw _ (by omega) (by omega)]
    constructor
    · congr 2; push_cast; omega
    · congr 2; rw [Nat.cast_sub (by omega)]; push_cast; omega

/-! ## The peak of finite values -/

/-- The greatest finite value of the group's own type. -/
abbrev big : EReal := Ideal.ofBits .bf16 0x7F7F#16

theorem big_eq : big = (((255 : ℝ) * 2 ^ (120 : ℤ) : ℝ) : EReal) := by
  show Ideal.ieee 8 7 0x7F7F#16 = _
  unfold Ideal.ieee
  rw [if_neg (by decide), if_neg (by decide)]
  congr 1
  rw [if_neg (by decide), show (BitVec.extractLsb' 0 7 0x7F7F#16).toNat = 127 from rfl,
    show (BitVec.extractLsb' 7 8 0x7F7F#16).toNat = 254 from rfl]
  norm_num

theorem word_448inv : ∃ c : ℝ, word 0x3B124925#32 = (c : EReal) ∧ 0 ≤ c ∧ c ≤ 1 / 64 := by
  refine ⟨(2 ^ 23 + 1198373 : ℕ) * (2 : ℝ) ^ (-32 : ℤ), ?_, by positivity, by norm_num⟩
  show Ideal.ieee 8 23 0x3B124925#32 = _
  unfold Ideal.ieee
  rw [if_neg (by decide), if_neg (by decide)]
  congr 1
  rw [if_neg (by decide), show (BitVec.extractLsb' 0 23 0x3B124925#32).toNat = 1198373 from rfl,
    show (BitVec.extractLsb' 23 8 0x3B124925#32).toNat = 118 from rfl]
  norm_num

theorem peak_fin (f : Fin 128 → EReal) (hf : ∀ l, max (f l) (-(f l)) ≤ big) :
    ∃ r : ℝ, peak f = (r : EReal) ∧ 0 ≤ r ∧ r < (2 : ℝ) ^ (126 : ℤ) := by
  have hnn : ∀ x : EReal, 0 ≤ max x (-x) := fun x => by
    rcases le_total 0 x with h | h
    · exact le_max_of_le_left h
    · exact le_max_of_le_right (by simpa using EReal.neg_le_neg_iff.mpr h)
  have hle : Finset.univ.fold max ⊥ (fun l => max (f l) (-(f l))) ≤ big :=
    Finset.fold_max_le _ |>.mpr ⟨bot_le, fun l _ => hf l⟩
  have hge : 0 ≤ Finset.univ.fold max ⊥ (fun l => max (f l) (-(f l))) :=
    Finset.le_fold_max _ |>.mpr (Or.inr ⟨0, Finset.mem_univ _, hnn _⟩)
  obtain ⟨c, hc, hc0, hc1⟩ := word_448inv
  unfold peak
  rw [hc]
  generalize Finset.univ.fold max ⊥ (fun l => max (f l) (-(f l))) = a at hle hge
  rw [big_eq] at hle
  induction a using EReal.rec with
  | bot => simp at hge
  | top => exact absurd hle (not_le.mpr (EReal.coe_lt_top _))
  | coe a =>
    rw [EReal.coe_le_coe_iff] at hle
    have hge' : 0 ≤ a := by exact_mod_cast hge
    refine ⟨a * c, by rw [EReal.coe_mul], mul_nonneg hge' hc0, ?_⟩
    calc a * c ≤ (255 * 2 ^ (120 : ℤ)) * (1 / 64) := mul_le_mul hle hc1 hc0 (by positivity)
      _ < 2 ^ (126 : ℤ) := by norm_num

/-- On a group of finite values the reference's scale and the inverse it multiplies by are the kernel's. -/
theorem scale_peak (f : Fin 128 → EReal) (hf : ∀ l, max (f l) (-(f l)) ≤ big) :
    Ideal.pow (word 0x40000000#32) (refExp (peak f)) = gscale f
      ∧ Ideal.pow (word 0x40000000#32) (0 - refExp (peak f)) = invOf (peak f) := by
  obtain ⟨r, hr, h0, h1⟩ := peak_fin f hf
  unfold gscale
  rw [hr]
  exact scale_eq r h0 h1

end Cert.Quant

end
-- ==== Proof.Spec.lean ====
/-
  The three results as plain functions of the arguments: the scales of a matrix's 128-wide row groups, its codes, and the
  product of its dequantised values with the dequantised weights.
-/
module

public import proofs.«01_k».proof.Proof.Quant

@[expose] public section

noncomputable section

namespace Cert.Spec

open Idealize.ShloMosaic Cert.Quant

variable (D : Fin 1536 → Fin 9728 → EReal) (W : Fin 2560 → Fin 9728 → EReal) (S : Fin 20 → Fin 76 → EReal)

/-- Group `g` of row `r`: 128 neighbouring values. -/
def grp (r : Fin 1536) (g : Fin 76) : Fin 128 → EReal := fun l => D r ⟨g.val * 128 + l.val, by omega⟩

/-- The group and the lane of a column. -/
abbrev gOf (k : Fin 9728) : Fin 76 := ⟨k.val / 128, by omega⟩
abbrev lOf (k : Fin 9728) : Fin 128 := ⟨k.val % 128, by omega⟩

/-- The scales, the codes, the dequantised values, -/
def scaleAt (r : Fin 1536) (g : Fin 76) : EReal := gscale (grp D r g)
def codeAt (r : Fin 1536) (k : Fin 9728) : EReal := gcode (grp D r (gOf k)) (lOf k)
def deqAt (r : Fin 1536) (k : Fin 9728) : EReal := gdeq (grp D r (gOf k)) (lOf k)

/-- the dequantised weights, -/
def wAt (n : Fin 2560) (k : Fin 9728) : EReal := W n k * S ⟨n.val / 128, by omega⟩ (gOf k)

/-- and the product. -/
def dxAt (r : Fin 1536) (n : Fin 2560) : EReal := ∑ k, deqAt D r k * wAt W S n k

end Cert.Spec

end
-- ==== Proof.Group.lean ====
/-
  What the kernel computes of one tile of 128 rows and one group of columns, element by element: the codes, the scale and the
  dequantised values of `Quant`. The body spells the same computation four times, once per group of a block; the four are one.
-/
module

public import proofs.«01_k».proof.Proof.Gen.KernelIdeal.Skeleton
public import proofs.«01_k».proof.Proof.Quant

@[expose] public section

set_option maxRecDepth 16384

noncomputable section

namespace Cert.KernelIdeal.Hand

open Cert.KernelIdeal Cert.KernelIdeal.Gen
open Idealize.ShloMosaic
open Cert.Quant

/-- A tile's codes, dequantised values and scales, as the body spells them for the first group. -/
abbrev tcode (x : Vec Ideal S128x128 .bf16) : FVec Ideal S128x128 .fp8e4m3 :=
  k0_pay15 (F := Ideal) (k0_pay8 (F := Ideal) x) (k0_pay9 (F := Ideal) x) (k0_pay10 (F := Ideal) x) k0_pay11
abbrev tdeq (x : Vec Ideal S128x128 .bf16) : FVec Ideal S1x128x128 .bf16 :=
  k0_pay16 (F := Ideal) (k0_pay8 (F := Ideal) x) (k0_pay9 (F := Ideal) x) (k0_pay10 (F := Ideal) x) k0_pay11
abbrev tscale (x : Vec Ideal S128x128 .bf16) : FVec Ideal S128x1 .f32 :=
  k0_pay14 (F := Ideal) (k0_pay9 (F := Ideal) x) (k0_pay10 (F := Ideal) x) k0_pay11

section Same
variable (x : Vec Ideal S128x128 .bf16)

theorem code1 : k0_pay25 (F := Ideal) (k0_pay19 (F := Ideal) x) (k0_pay20 (F := Ideal) x) (k0_pay21 (F := Ideal) x) 8388608#32 = tcode x := rfl
theorem deq1 : k0_pay26 (F := Ideal) (k0_pay19 (F := Ideal) x) (k0_pay20 (F := Ideal) x) (k0_pay21 (F := Ideal) x) 8388608#32 = tdeq x := rfl
theorem code2 : k0_pay32 (F := Ideal) (k0_pay28 (F := Ideal) x) (k0_pay29 (F := Ideal) x) = tcode x := rfl
theorem deq2 : k0_pay33 (F := Ideal) (k0_pay28 (F := Ideal) x) (k0_pay29 (F := Ideal) x) = tdeq x := rfl
theorem code3 : k0_pay2 (F := Ideal) (k0_pay35 (F := Ideal) x) (k0_pay37 (F := Ideal) (k0_pay36 (F := Ideal) x)) (k0_pay38 (F := Ideal) (k0_pay36 (F := Ideal) x)) = tcode x := rfl
theorem deq3 : k0_pay3 (F := Ideal) (k0_pay35 (F := Ideal) x) (k0_pay37 (F := Ideal) (k0_pay36 (F := Ideal) x)) (k0_pay38 (F := Ideal) (k0_pay36 (F := Ideal) x)) k0_pay39 = tdeq x := rfl
theorem scale1 : k0_pay24 (F := Ideal) (k0_pay20 (F := Ideal) x) (k0_pay21 (F := Ideal) x) 8388608#32 = tscale x := rfl
theorem scale2 : k0_pay31 (F := Ideal) (k0_pay29 (F := Ideal) x) = tscale x := rfl
theorem scale3 : k0_pay1 (F := Ideal) (k0_pay37 (F := Ideal) (k0_pay36 (F := Ideal) x)) (k0_pay38 (F := Ideal) (k0_pay36 (F := Ideal) x)) k0_pay39 = tscale x := rfl

/-- Row `r` of a tile. -/
abbrev trow (r : Fin 128) : Fin 128 → EReal := fun l => x (ix2 r l)

theorem negInf_bf16 : Ideal.ofBits .bf16 0xFF80#16 = ⊥ := by
  show Ideal.ieee 8 7 0xFF80#16 = _
  unfold Ideal.ieee
  rw [if_pos (by rfl), if_pos (by rfl), if_pos (by decide)]

theorem pay9_apply (r : Fin 128) (z : Fin 1) : k0_pay9 (F := Ideal) x (ix2 r z) = peak (trow x r) := by
  pointwise [k0_pay9, k0_pay8]
  rw [negInf_bf16]
  rfl

/-- One step of the search over a column of values. -/
def vstep (y : FVec Ideal S128x1 .f32) (b : BitVec 32) (e : IVec S128x1 32) : IVec S128x1 32 :=
  select (cmpf .oge y (bitcastToFloat .f32 (addi e (broadcast S128x1 b)))) (addi e (broadcast S128x1 b)) e

theorem vstep_apply (y : FVec Ideal S128x1 .f32) (b : BitVec 32) (e : IVec S128x1 32) (j : S128x1.Idx) :
    vstep y b e j = step (y j) b (e j) := by
  unfold vstep
  pointwise
  rfl

theorem pay10_eq : k0_pay10 (F := Ideal) x
    = vstep (k0_pay9 (F := Ideal) x) 0x02000000#32 (vstep (k0_pay9 (F := Ideal) x) 0x04000000#32
      (vstep (k0_pay9 (F := Ideal) x) 0x08000000#32 (vstep (k0_pay9 (F := Ideal) x) 0x10000000#32
      (vstep (k0_pay9 (F := Ideal) x) 0x20000000#32 (vstep (k0_pay9 (F := Ideal) x) 0x40000000#32 (broadcast S128x1 0#32)))))) := rfl

theorem pay12_eq (y : FVec Ideal S128x1 .f32) (e : IVec S128x1 32) :
    k0_pay12 (F := Ideal) y e k0_pay11 = vstep y 0x00800000#32 (vstep y 0x01000000#32 e) := rfl

/-- The exponent word of a row's scale. -/
theorem pay12_apply (r : Fin 128) (z : Fin 1) :
    k0_pay12 (F := Ideal) (k0_pay9 (F := Ideal) x) (k0_pay10 (F := Ideal) x) k0_pay11 (ix2 r z) = expBits (peak (trow x r)) := by
  rw [pay12_eq, pay10_eq]
  simp only [vstep_apply, pay9_apply]
  rfl

theorem select_eq_zero (e a b : BitVec 32) :
    Scalar.select (IntOp.cmpi CmpIPredicate.eq e 0#32) a b = if e = 0#32 then a else b := by
  by_cases h : e = 0#32
  · subst h; rfl
  · rw [if_neg h]
    have : IntOp.cmpi CmpIPredicate.eq e 0#32 = 0#1 := by
      show BitVec.ofBool (e == 0#32) = _
      rw [beq_eq_false_iff_ne.mpr h]; rfl
    rw [this]; rfl

/-- A tile's scales, codes and dequantised values, element by element. -/
theorem tscale_apply (r : Fin 128) (z : Fin 1) : tscale x (ix2 r z) = gscale (trow x r) := by
  have h := pay12_apply x r z
  unfold tscale
  generalize k0_pay10 (F := Ideal) x = e at h ⊢
  generalize k0_pay9 (F := Ideal) x = y at h ⊢
  unfold gscale scaleOf
  rw [← h]
  generalize hw : k0_pay12 (F := Ideal) y e k0_pay11 = w
  pointwise [k0_pay14, k0_pay13, hw]
  rw [select_eq_zero]
  rfl

theorem tcode_apply (r l : Fin 128) : tcode x (ix2 r l) = gcode (trow x r) l := by
  have h := pay12_apply x r 0
  unfold tcode
  generalize k0_pay10 (F := Ideal) x = e at h ⊢
  generalize k0_pay9 (F := Ideal) x = y at h ⊢
  unfold gcode invOf
  rw [← h]
  generalize hw : k0_pay12 (F := Ideal) y e k0_pay11 = w
  pointwise [k0_pay15, k0_pay13, k0_pay8, hw]
  rw [select_eq_zero]
  rfl

theorem tdeq_apply (u : Fin 1) (r l : Fin 128) : tdeq x (ix3 u r l) = gdeq (trow x r) l := by
  unfold gdeq
  rw [← tcode_apply, ← tscale_apply x r 0]
  unfold tdeq tcode tscale
  generalize k0_pay8 (F := Ideal) x = e
  generalize k0_pay9 (F := Ideal) x = y
  generalize k0_pay10 (F := Ideal) x = z
  pointwise [k0_pay16]

end Same

end Cert.KernelIdeal.Hand

end
-- ==== Proof.Tiles.lean ====
/-
  What one trip of the quantising loop leaves in the three buffers it writes: a trip stores a tile of 128 rows of the codes, of the
  dequantised values and of the scales, and leaves every other row alone.
-/
module

public import proofs.«01_k».proof.Proof.Group
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic
open Cert.Quant

/-- Group `j` of row `r` of a block of four groups, -/
def bgrp (X : S1536x512.Idx → EReal) (r : Fin 1536) (j : Fin 4) : Fin 128 → EReal :=
  fun l => X (ix2 r ⟨j.val * 128 + l.val, by omega⟩)

/-- and the block's scales, codes and dequantised values. -/
def bscale (X : S1536x512.Idx → EReal) (r : Fin 1536) (j : Fin 4) : EReal := gscale (bgrp X r j)
def bcode (X : S1536x512.Idx → EReal) (r : Fin 1536) (q : Fin 512) : EReal :=
  gcode (bgrp X r ⟨q.val / 128, by omega⟩) ⟨q.val % 128, by omega⟩
def bdeq (X : S1536x512.Idx → EReal) (r : Fin 1536) (q : Fin 512) : EReal :=
  gdeq (bgrp X r ⟨q.val / 128, by omega⟩) ⟨q.val % 128, by omega⟩

theorem bcode_at (X : S1536x512.Idx → EReal) (r : Fin 1536) (j : Fin 4) (l : Fin 128) (q : Fin 512) (hq : q.val = 128 * j.val + l.val) :
    bcode X r q = gcode (bgrp X r j) l := by
  unfold bcode
  congr 1
  · congr 1; exact Fin.ext (by show q.val / 128 = _; omega)
  · exact Fin.ext (by show q.val % 128 = _; omega)

theorem bdeq_at (X : S1536x512.Idx → EReal) (r : Fin 1536) (j : Fin 4) (l : Fin 128) (q : Fin 512) (hq : q.val = 128 * j.val + l.val) :
    bdeq X r q = gdeq (bgrp X r j) l := by
  unfold bdeq
  congr 1
  · congr 1; exact Fin.ext (by show q.val / 128 = _; omega)
  · exact Fin.ext (by show q.val % 128 = _; omega)

section Read
variable {sig : RefSig} {κ : Kind} {sp : Space}

/-- A tile's rows are groups of the block it is loaded from. -/
theorem tile_row (v : View sig κ sp S1536x512 .bf16) (f : v.ty.Contents (Elt Ideal)) {off : Fin 2 → ℕ}
    (inb : ∀ a, off a + S128x128.size a ≤ S1536x512.size a) (k : ℕ) (j : Fin 4) (ho : off = ![128 * k, 128 * j.val])
    (r : Fin 128) (R : Fin 1536) (hR : R.val = 128 * k + r.val) :
    trow (v.readAt (Elt Ideal) (Rect.unit (s := S1536x512) off S128x128.size inb).toLoadRect f) r
      = bgrp (v.read (Elt Ideal) f) R j := by
  subst ho
  funext l
  refine congrArg (v.read (Elt Ideal) f) (funext fun a => Fin.ext ?_)
  fin_cases a
  · show 128 * k + 1 * r.val = R.val; omega
  · show 128 * j.val + 1 * l.val = j.val * 128 + l.val; omega

theorem tile_at (v : View sig κ sp S1536x128 .f32) (f : v.ty.Contents (Elt Ideal)) {off : Fin 2 → ℕ}
    (inb : ∀ a, off a + S128x128.size a ≤ S1536x128.size a) (k : ℕ) (ho : off = ![128 * k, 0])
    (r l : Fin 128) (R : Fin 1536) (hR : R.val = 128 * k + r.val) :
    v.readAt (Elt Ideal) (Rect.unit (s := S1536x128) off S128x128.size inb).toLoadRect f (ix2 r l)
      = v.read (Elt Ideal) f (ix2 R l) := by
  subst ho
  refine congrArg (v.read (Elt Ideal) f) (funext fun a => Fin.ext ?_)
  fin_cases a
  · show 128 * k + 1 * r.val = R.val; omega
  · show 0 + 1 * l.val = l.val; omega
end Read

section Write
variable {sig : RefSig} {κ : Kind} {sp : Space}

/-- Four tiles side by side: the rows of trip `k` hold the payloads, the others what they held. -/
theorem rows_codes (v : View sig κ sp S1536x512 .fp8e4m3) (f : v.ty.Contents (Elt Ideal)) (k : ℕ) (hk : k < 12)
    {o0 o1 o2 o3 : Fin 2 → ℕ} (i0 : ∀ a, o0 a + S128x128.size a ≤ S1536x512.size a) (i1 : ∀ a, o1 a + S128x128.size a ≤ S1536x512.size a)
    (i2 : ∀ a, o2 a + S128x128.size a ≤ S1536x512.size a) (i3 : ∀ a, o3 a + S128x128.size a ≤ S1536x512.size a)
    (e0 : o0 = ![128 * k, 0]) (e1 : o1 = ![128 * k, 128]) (e2 : o2 = ![128 * k, 256]) (e3 : o3 = ![128 * k, 384])
    (p0 p1 p2 p3 : S128x128.Idx → EReal) (Q : Fin 1536 → Fin 512 → EReal) (R : S1536x512.Idx → EReal)
    (h0 : ∀ (r l : Fin 128) (R' : Fin 1536) (q : Fin 512), R'.val = 128 * k + r.val → q.val = 0 + l.val → p0 (ix2 r l) = Q R' q)
    (h1 : ∀ (r l : Fin 128) (R' : Fin 1536) (q : Fin 512), R'.val = 128 * k + r.val → q.val = 128 + l.val → p1 (ix2 r l) = Q R' q)
    (h2 : ∀ (r l : Fin 128) (R' : Fin 1536) (q : Fin 512), R'.val = 128 * k + r.val → q.val = 256 + l.val → p2 (ix2 r l) = Q R' q)
    (h3 : ∀ (r l : Fin 128) (R' : Fin 1536) (q : Fin 512), R'.val = 128 * k + r.val → q.val = 384 + l.val → p3 (ix2 r l) = Q R' q)
    (hf : ∀ r q, v.read (Elt Ideal) f (ix2 r q) = if r.val < 128 * k then Q r q else R (ix2 r q)) (r : Fin 1536) (q : Fin 512) :
    v.read (Elt Ideal) (v.writes (Elt Ideal) f [⟨Rect.unit (s := S1536x512) o3 S128x128.size i3, p3⟩, ⟨Rect.unit (s := S1536x512) o2 S128x128.size i2, p2⟩,
      ⟨Rect.unit (s := S1536x512) o1 S128x128.size i1, p1⟩, ⟨Rect.unit (s := S1536x512) o0 S128x128.size i0, p0⟩]) (ix2 r q)
      = if r.val < 128 * (k + 1) then Q r q else R (ix2 r q) := by
  by_cases hr : 128 * k ≤ r.val ∧ r.val < 128 * k + 128
  · rw [if_pos (by omega)]
    obtain ⟨r', hr'⟩ : ∃ r' : Fin 128, r.val = 128 * k + r'.val := ⟨⟨r.val - 128 * k, by omega⟩, by show _ = _ + (_ - _); omega⟩
    by_cases c3 : 384 ≤ q.val
    · obtain ⟨l, hl⟩ : ∃ l : Fin 128, q.val = 384 + l.val := ⟨⟨q.val - 384, by omega⟩, by show _ = _ + (_ - _); omega⟩
      rw [View.read_writes_cons_unit_of_mem v f i3 p3 _ (ix2 r q) (ix2 r' l) e3 (by intro a; fin_cases a <;> assumption)]
      exact h3 r' l r q hr' hl
    rw [View.read_writes_cons_unit_of_not_mem v f i3 p3 _ (ix2 r q) e3 1 (.inl (by show q.val < 384; omega))]
    by_cases c2 : 256 ≤ q.val
    · obtain ⟨l, hl⟩ : ∃ l : Fin 128, q.val = 256 + l.val := ⟨⟨q.val - 256, by omega⟩, by show _ = _ + (_ - _); omega⟩
      rw [View.read_writes_cons_unit_of_mem v f i2 p2 _ (ix2 r q) (ix2 r' l) e2 (by intro a; fin_cases a <;> assumption)]
      exact h2 r' l r q hr' hl
    rw [View.read_writes_cons_unit_of_not_mem v f i2 p2 _ (ix2 r q) e2 1 (.inl (by show q.val < 256; omega))]
    by_cases c1 : 128 ≤ q.val
    · obtain ⟨l, hl⟩ : ∃ l : Fin 128, q.val = 128 + l.val := ⟨⟨q.val - 128, by omega⟩, by show _ = _ + (_ - _); omega⟩
      rw [View.read_writes_cons_unit_of_mem v f i1 p1 _ (ix2 r q) (ix2 r' l) e1 (by intro a; fin_cases a <;> assumption)]
      exact h1 r' l r q hr' hl
    rw [View.read_writes_cons_unit_of_not_mem v f i1 p1 _ (ix2 r q) e1 1 (.inl (by show q.val < 128; omega))]
    obtain ⟨l, hl⟩ : ∃ l : Fin 128, q.val = 0 + l.val := ⟨⟨q.val, by omega⟩, (Nat.zero_add _).symm⟩
    rw [View.read_writes_cons_unit_of_mem v f i0 p0 _ (ix2 r q) (ix2 r' l) e0 (by intro a; fin_cases a <;> assumption)]
    exact h0 r' l r q hr' hl
  · have hn : r.val < 128 * k ∨ 128 * k + 128 ≤ r.val := by omega
    rw [View.read_writes_cons_unit_of_not_mem v f i3 p3 _ (ix2 r q) e3 0 hn, View.read_writes_cons_unit_of_not_mem v f i2 p2 _ (ix2 r q) e2 0 hn,
      View.read_writes_cons_unit_of_not_mem v f i1 p1 _ (ix2 r q) e1 0 hn, View.read_writes_cons_unit_of_not_mem v f i0 p0 _ (ix2 r q) e0 0 hn, View.writes_nil, hf]
    by_cases h : r.val < 128 * k
    · rw [if_pos h, if_pos (by omega)]
    · rw [if_neg h, if_neg (by omega)]

/-- The same in one of the two slots of the dequantised values. -/
theorem rows_deq (v : View sig κ sp S2x1536x512 .bf16) (f : v.ty.Contents (Elt Ideal)) (k : ℕ) (hk : k < 12) (s : Fin 2)
    {o0 o1 o2 o3 : Fin 3 → ℕ} (i0 : ∀ a, o0 a + S1x128x128.size a ≤ S2x1536x512.size a) (i1 : ∀ a, o1 a + S1x128x128.size a ≤ S2x1536x512.size a)
    (i2 : ∀ a, o2 a + S1x128x128.size a ≤ S2x1536x512.size a) (i3 : ∀ a, o3 a + S1x128x128.size a ≤ S2x1536x512.size a)
    (e0 : o0 = ![s.val, 128 * k, 0]) (e1 : o1 = ![s.val, 128 * k, 128]) (e2 : o2 = ![s.val, 128 * k, 256]) (e3 : o3 = ![s.val, 128 * k, 384])
    (p0 p1 p2 p3 : S1x128x128.Idx → EReal) (Q : Fin 1536 → Fin 512 → EReal) (R : S2x1536x512.Idx → EReal)
    (h0 : ∀ (r l : Fin 128) (R' : Fin 1536) (q : Fin 512), R'.val = 128 * k + r.val → q.val = 0 + l.val → p0 (ix3 0 r l) = Q R' q)
    (h1 : ∀ (r l : Fin 128) (R' : Fin 1536) (q : Fin 512), R'.val = 128 * k + r.val → q.val = 128 + l.val → p1 (ix3 0 r l) = Q R' q)
    (h2 : ∀ (r l : Fin 128) (R' : Fin 1536) (q : Fin 512), R'.val = 128 * k + r.val → q.val = 256 + l.val → p2 (ix3 0 r l) = Q R' q)
    (h3 : ∀ (r l : Fin 128) (R' : Fin 1536) (q : Fin 512), R'.val = 128 * k + r.val → q.val = 384 + l.val → p3 (ix3 0 r l) = Q R' q)
    (hf : ∀ u r q, v.read (Elt Ideal) f (ix3 u r q) = if u = s ∧ r.val < 128 * k then Q r q else R (ix3 u r q)) (u : Fin 2) (r : Fin 1536) (q : Fin 512) :
    v.read (Elt Ideal) (v.writes (Elt Ideal) f [⟨Rect.unit (s := S2x1536x512) o3 S1x128x128.size i3, p3⟩, ⟨Rect.unit (s := S2x1536x512) o2 S1x128x128.size i2, p2⟩,
      ⟨Rect.unit (s := S2x1536x512) o1 S1x128x128.size i1, p1⟩, ⟨Rect.unit (s := S2x1536x512) o0 S1x128x128.size i0, p0⟩]) (ix3 u r q)
      = if u = s ∧ r.val < 128 * (k + 1) then Q r q else R (ix3 u r q) := by
  by_cases hu : u = s
  · subst hu
    by_cases hr : 128 * k ≤ r.val ∧ r.val < 128 * k + 128
    · rw [if_pos ⟨rfl, by omega⟩]
      obtain ⟨r', hr'⟩ : ∃ r' : Fin 128, r.val = 128 * k + r'.val := ⟨⟨r.val - 128 * k, by omega⟩, by show _ = _ + (_ - _); omega⟩
      have hs : u.val = u.val + (0 : Fin 1).val := rfl
      by_cases c3 : 384 ≤ q.val
      · obtain ⟨l, hl⟩ : ∃ l : Fin 128, q.val = 384 + l.val := ⟨⟨q.val - 384, by omega⟩, by show _ = _ + (_ - _); omega⟩
        rw [View.read_writes_cons_unit_of_mem v f i3 p3 _ (ix3 u r q) (ix3 0 r' l) e3 (by intro a; fin_cases a <;> assumption)]
        exact h3 r' l r q hr' hl
      rw [View.read_writes_cons_unit_of_not_mem v f i3 p3 _ (ix3 u r q) e3 2 (.inl (by show q.val < 384; omega))]
      by_cases c2 : 256 ≤ q.val
      · obtain ⟨l, hl⟩ : ∃ l : Fin 128, q.val = 256 + l.val := ⟨⟨q.val - 256, by omega⟩, by show _ = _ + (_ - _); omega⟩
        rw [View.read_writes_cons_unit_of_mem v f i2 p2 _ (ix3 u r q) (ix3 0 r' l) e2 (by intro a; fin_cases a <;> assumption)]
        exact h2 r' l r q hr' hl
      rw [View.read_writes_cons_unit_of_not_mem v f i2 p2 _ (ix3 u r q) e2 2 (.inl (by show q.val < 256; omega))]
      by_cases c1 : 128 ≤ q.val
      · obtain ⟨l, hl⟩ : ∃ l : Fin 128, q.val = 128 + l.val := ⟨⟨q.val - 128, by omega⟩, by show _ = _ + (_ - _); omega⟩
        rw [View.read_writes_cons_unit_of_mem v f i1 p1 _ (ix3 u r q) (ix3 0 r' l) e1 (by intro a; fin_cases a <;> assumption)]
        exact h1 r' l r q hr' hl
      rw [View.read_writes_cons_unit_of_not_mem v f i1 p1 _ (ix3 u r q) e1 2 (.inl (by show q.val < 128; omega))]
      obtain ⟨l, hl⟩ : ∃ l : Fin 128, q.val = 0 + l.val := ⟨⟨q.val, by omega⟩, (Nat.zero_add _).symm⟩
      rw [View.read_writes_cons_unit_of_mem v f i0 p0 _ (ix3 u r q) (ix3 0 r' l) e0 (by intro a; fin_cases a <;> assumption)]
      exact h0 r' l r q hr' hl
    · have hn : r.val < 128 * k ∨ 128 * k + 128 ≤ r.val := by omega
      rw [View.read_writes_cons_unit_of_not_mem v f i3 p3 _ (ix3 u r q) e3 1 hn, View.read_writes_cons_unit_of_not_mem v f i2 p2 _ (ix3 u r q) e2 1 hn,
        View.read_writes_cons_unit_of_not_mem v f i1 p1 _ (ix3 u r q) e1 1 hn, View.read_writes_cons_unit_of_not_mem v f i0 p0 _ (ix3 u r q) e0 1 hn, View.writes_nil, hf]
      by_cases h : r.val < 128 * k
      · rw [if_pos ⟨rfl, h⟩, if_pos ⟨rfl, by omega⟩]
      · rw [if_neg (fun h' => h h'.2), if_neg (fun h' => by omega)]
  · have hn : u.val < s.val ∨ s.val + 1 ≤ u.val := by
      have : u.val ≠ s.val := fun h => hu (Fin.ext h)
      omega
    rw [View.read_writes_cons_unit_of_not_mem v f i3 p3 _ (ix3 u r q) e3 0 hn, View.read_writes_cons_unit_of_not_mem v f i2 p2 _ (ix3 u r q) e2 0 hn,
      View.read_writes_cons_unit_of_not_mem v f i1 p1 _ (ix3 u r q) e1 0 hn, View.read_writes_cons_unit_of_not_mem v f i0 p0 _ (ix3 u r q) e0 0 hn, View.writes_nil, hf]
    rw [if_neg (fun h => hu h.1), if_neg (fun h => hu h.1)]

/-- One tile of full width. -/
theorem rows_scale (v : View sig κ sp S1536x128 .f32) (f : v.ty.Contents (Elt Ideal)) (k : ℕ) (hk : k < 12)
    {o : Fin 2 → ℕ} (inb : ∀ a, o a + S128x128.size a ≤ S1536x128.size a) (e : o = ![128 * k, 0])
    (p : S128x128.Idx → EReal) (Q : Fin 1536 → Fin 128 → EReal) (R : S1536x128.Idx → EReal)
    (h : ∀ (r l : Fin 128) (R' : Fin 1536), R'.val = 128 * k + r.val → p (ix2 r l) = Q R' l)
    (hf : ∀ r l, v.read (Elt Ideal) f (ix2 r l) = if r.val < 128 * k then Q r l else R (ix2 r l)) (r : Fin 1536) (l : Fin 128) :
    v.read (Elt Ideal) (v.writes (Elt Ideal) f [⟨Rect.unit (s := S1536x128) o S128x128.size inb, p⟩]) (ix2 r l)
      = if r.val < 128 * (k + 1) then Q r l else R (ix2 r l) := by
  by_cases hr : 128 * k ≤ r.val ∧ r.val < 128 * k + 128
  · rw [if_pos (by omega)]
    obtain ⟨r', hr'⟩ : ∃ r' : Fin 128, r.val = 128 * k + r'.val := ⟨⟨r.val - 128 * k, by omega⟩, by show _ = _ + (_ - _); omega⟩
    have hl : l.val = 0 + l.val := by omega
    rw [View.read_writes_cons_unit_of_mem v f inb p _ (ix2 r l) (ix2 r' l) e (by intro a; fin_cases a <;> assumption)]
    exact h r' l r hr'
  · have hn : r.val < 128 * k ∨ 128 * k + 128 ≤ r.val := by omega
    rw [View.read_writes_cons_unit_of_not_mem v f inb p _ (ix2 r l) e 0 hn, View.writes_nil, hf]
    by_cases h : r.val < 128 * k
    · rw [if_pos h, if_pos (by omega)]
    · rw [if_neg h, if_neg (by omega)]
end Write

/-! ## The scales' lanes -/

/-- The scales' tile after a trip, as the body spells it. -/
abbrev tlanes (i : grid0.Coords) (sc : Vec Ideal S128x128 .f32) (x0 x1 x2 x3 : Vec Ideal S128x128 .bf16) : FVec Ideal S128x128 .f32 :=
  k0_pay4 (F := Ideal) i
    (k0_pay34 (F := Ideal) (BitVec.ofNat 32 (i 0).val) (iota Kind.tc S128x128 32 [1] iota_S128x128_d1_w32)
      (k0_pay27 (F := Ideal) (BitVec.ofNat 32 (i 0).val) (iota Kind.tc S128x128 32 [1] iota_S128x128_d1_w32)
        (k0_pay18 (F := Ideal) (k0_pay7 (F := Ideal) sc) (tscale x0)
          (k0_pay17 (BitVec.ofNat 32 (i 0).val) (iota Kind.tc S128x128 32 [1] iota_S128x128_d1_w32)))
        (k0_pay20 (F := Ideal) x1) (k0_pay21 (F := Ideal) x1) 8388608#32)
      (k0_pay29 (F := Ideal) x2))
    (k0_pay37 (F := Ideal) (k0_pay36 (F := Ideal) x3)) (k0_pay38 (F := Ideal) (k0_pay36 (F := Ideal) x3)) k0_pay39

/-- One group's scale put in its lane. -/
def vlane (i : grid0.Coords) (j : BitVec 32) (s : FVec Ideal S128x1 .f32) (sc : FVec Ideal S128x128 .f32) : FVec Ideal S128x128 .f32 :=
  select (cmpi .eq (iota Kind.tc S128x128 32 [1] iota_S128x128_d1_w32)
      (broadcast S128x128 (Scalar.addi (Scalar.muli (BitVec.ofNat 32 (i 0).val) 4#32) j)))
    (broadcastTo S128x128 (shapeCast S128x1 s shapeCasts_S128x1_S128x1) broadcasts_S128x1_S128x128) sc

theorem tlanes_eq (i : grid0.Coords) (sc : Vec Ideal S128x128 .f32) (x0 x1 x2 x3 : Vec Ideal S128x128 .bf16) :
    tlanes i sc x0 x1 x2 x3 = vlane i 3#32 (tscale x3) (vlane i 2#32 (tscale x2) (vlane i 1#32 (tscale x1)
      (vlane i 0#32 (tscale x0) (k0_pay7 (F := Ideal) sc)))) := rfl

theorem lane_word (t : ℕ) (ht : t < 20) (l : Fin 128) (j : Fin 4) :
    IntOp.cmpi CmpIPredicate.eq (BitVec.ofNat 32 l.val) (Scalar.addi (Scalar.muli (BitVec.ofNat 32 t) 4#32) (BitVec.ofNat 32 j.val)) = if l.val = 4 * t + j.val then 1#1 else 0#1 := by
  have e : Scalar.addi (Scalar.muli (BitVec.ofNat 32 t) 4#32) (BitVec.ofNat 32 j.val) = BitVec.ofNat 32 (4 * t + j.val) := by
    show BitVec.ofNat 32 t * 4#32 + BitVec.ofNat 32 j.val = _
    apply BitVec.eq_of_toNat_eq
    simp only [BitVec.toNat_add, BitVec.toNat_mul, BitVec.toNat_ofNat]
    omega
  rw [e]
  show BitVec.ofBool (BitVec.ofNat 32 l.val == BitVec.ofNat 32 (4 * t + j.val)) = _
  by_cases h : l.val = 4 * t + j.val
  · rw [if_pos h, h, beq_self_eq_true]; rfl
  · rw [if_neg h]
    have : (BitVec.ofNat 32 l.val == BitVec.ofNat 32 (4 * t + j.val)) = false := by
      rw [beq_eq_false_iff_ne]
      intro hh
      have := congrArg BitVec.toNat hh
      simp only [BitVec.toNat_ofNat] at this
      omega
    rw [this]; rfl

theorem vlane_apply (i : grid0.Coords) (j : Fin 4) (s : FVec Ideal S128x1 .f32) (sc : FVec Ideal S128x128 .f32) (r l : Fin 128) :
    vlane i (BitVec.ofNat 32 j.val) s sc (ix2 r l) = if l.val = 4 * (i 0).val + j.val then s (ix2 r 0) else sc (ix2 r l) := by
  have hw := lane_word (i 0).val (i 0).isLt l j
  unfold vlane
  generalize Scalar.addi (Scalar.muli (BitVec.ofNat 32 (i 0).val) 4#32) (BitVec.ofNat 32 j.val) = w at hw ⊢
  pointwise
  rw [hw]
  split
  · rfl
  · rfl

theorem pay7_apply (sc : Vec Ideal S128x128 .f32) (r l : Fin 128) : k0_pay7 (F := Ideal) sc (ix2 r l) = sc (ix2 r l) := by
  pointwise [k0_pay7]

/-- The scales' lanes after point `i`: lanes `4 t … 4 t + 3` hold the block's scales. -/
def lanes (i : grid0.Coords) (X : S1536x512.Idx → EReal) (R : S1536x128.Idx → EReal) (r : Fin 1536) (l : Fin 128) : EReal :=
  if h : 4 * (i 0).val ≤ l.val ∧ l.val < 4 * (i 0).val + 4 then bscale X r ⟨l.val - 4 * (i 0).val, by omega⟩ else R (ix2 r l)

theorem tlanes_apply (i : grid0.Coords) (sc : Vec Ideal S128x128 .f32) (x0 x1 x2 x3 : Vec Ideal S128x128 .bf16)
    (X : S1536x512.Idx → EReal) (R : S1536x128.Idx → EReal) (r l : Fin 128) (R' : Fin 1536) (hsc : sc (ix2 r l) = R (ix2 R' l))
    (h0 : trow x0 r = bgrp X R' 0) (h1 : trow x1 r = bgrp X R' 1) (h2 : trow x2 r = bgrp X R' 2) (h3 : trow x3 r = bgrp X R' 3) :
    tlanes i sc x0 x1 x2 x3 (ix2 r l) = lanes i X R R' l := by
  have a0 := fun s c => vlane_apply i 0 s c r l
  have a1 := fun s c => vlane_apply i 1 s c r l
  have a2 := fun s c => vlane_apply i 2 s c r l
  have a3 := fun s c => vlane_apply i 3 s c r l
  rw [tlanes_eq]
  refine (a3 _ _).trans ?_
  rw [show vlane i 2#32 _ _ (ix2 r l) = _ from a2 _ _, show vlane i 1#32 _ _ (ix2 r l) = _ from a1 _ _,
    show vlane i 0#32 _ _ (ix2 r l) = _ from a0 _ _, pay7_apply, hsc]
  simp only [tscale_apply, h0, h1, h2, h3]
  unfold lanes
  show (if l.val = 4 * (i 0).val + 3 then _ else if l.val = 4 * (i 0).val + 2 then _ else if l.val = 4 * (i 0).val + 1 then _
    else if l.val = 4 * (i 0).val + 0 then _ else _) = _
  split_ifs with c3 c2 c1 c0 c c
  all_goals first
    | omega
    | with_reducible rfl
    | (unfold bscale; congr 2; exact Fin.ext (by first | (show 3 = _ - _; omega) | (show 2 = _ - _; omega) | (show 1 = _ - _; omega) | (show 0 = _ - _; omega)))

end Cert.KernelIdeal.Hand

end
-- ==== Proof.KernelIdealLoop.lean ====
/-
  The quantising loop over the extended reals: after all of its trips the block's codes, its dequantised values in the point's slot and its
  scales in the point's four lanes are what the specification says, and every other entry is what it was.
-/
module

public import proofs.«01_k».proof.Proof.Tiles
public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The state of the three written buffers after `k` trips on the block `X`, from the contents `R`. -/
def CodesAt (X R : S1536x512.Idx → EReal) (k : ℕ) (G : S1536x512.Idx → EReal) : Prop :=
  ∀ r q, G (ix2 r q) = if r.val < 128 * k then bcode X r q else R (ix2 r q)
def DeqAt (s : Fin 2) (X : S1536x512.Idx → EReal) (R : S2x1536x512.Idx → EReal) (k : ℕ) (G : S2x1536x512.Idx → EReal) : Prop :=
  ∀ u r q, G (ix3 u r q) = if u = s ∧ r.val < 128 * k then bdeq X r q else R (ix3 u r q)
def ScalesAt (i : grid0.Coords) (X : S1536x512.Idx → EReal) (R : S1536x128.Idx → EReal) (k : ℕ) (G : S1536x128.Idx → EReal) : Prop :=
  ∀ r l, G (ix2 r l) = if r.val < 128 * k then lanes i X R r l else R (ix2 r l)

theorem codes_zero (X R : S1536x512.Idx → EReal) : CodesAt X R 0 R := fun r q => (if_neg (by omega)).symm
theorem deq_zero (s : Fin 2) (X : S1536x512.Idx → EReal) (R : S2x1536x512.Idx → EReal) : DeqAt s X R 0 R := fun u r q => (if_neg (by omega)).symm
theorem scales_zero (i : grid0.Coords) (X : S1536x512.Idx → EReal) (R : S1536x128.Idx → EReal) : ScalesAt i X R 0 R := fun r l => (if_neg (by omega)).symm

/-- The slot a point writes. -/
def slot (i : grid0.Coords) : Fin 2 := ⟨(i 0).val % 2, Nat.mod_lt _ (by decide)⟩

section Pure
variable (k : Fin k0_t1_loop.trips) (hk : k.val < 12) {sp2 sp5 sp6 sp7 : Space}
  (v2 : View sig .tc sp2 S1536x512 .bf16) (f2 : v2.ty.Contents (Elt Ideal))
include hk

/-- Tile `j` of the trip. -/
abbrev tl {off : Fin 2 → ℕ} (inb : ∀ a, off a + S128x128.size a ≤ S1536x512.size a) : Vec Ideal S128x128 .bf16 :=
  v2.readAt (Elt Ideal) (Rect.unit (s := S1536x512) off S128x128.size inb).toLoadRect f2

theorem codes_step (v5 : View sig .tc sp5 S1536x512 .fp8e4m3) (f5 : v5.ty.Contents (Elt Ideal))
    (i2 : ∀ a, k0_off2 k a + S128x128.size a ≤ S1536x512.size a) (i4 : ∀ a, k0_off4 k a + S128x128.size a ≤ S1536x512.size a)
    (i6 : ∀ a, k0_off6 k a + S128x128.size a ≤ S1536x512.size a) (i8 : ∀ a, k0_off8 k a + S128x128.size a ≤ S1536x512.size a)
    (j2 : ∀ a, k0_off2 k a + S128x128.size a ≤ S1536x512.size a) (j4 : ∀ a, k0_off4 k a + S128x128.size a ≤ S1536x512.size a)
    (j6 : ∀ a, k0_off6 k a + S128x128.size a ≤ S1536x512.size a) (j8 : ∀ a, k0_off8 k a + S128x128.size a ≤ S1536x512.size a)
    (p0 p1 p2 p3 : S128x128.Idx → EReal) (h0 : p0 = tcode (tl v2 f2 i2)) (h1 : p1 = tcode (tl v2 f2 i4)) (h2 : p2 = tcode (tl v2 f2 i6)) (h3 : p3 = tcode (tl v2 f2 i8))
    (R : S1536x512.Idx → EReal) (h : CodesAt (v2.read (Elt Ideal) f2) R k.val (v5.read (Elt Ideal) f5)) :
    CodesAt (v2.read (Elt Ideal) f2) R (k.val + 1) (v5.read (Elt Ideal) (v5.writes (Elt Ideal) f5
      [⟨Rect.unit (s := S1536x512) (k0_off8 k) S128x128.size j8, p3⟩, ⟨Rect.unit (s := S1536x512) (k0_off6 k) S128x128.size j6, p2⟩,
        ⟨Rect.unit (s := S1536x512) (k0_off4 k) S128x128.size j4, p1⟩, ⟨Rect.unit (s := S1536x512) (k0_off2 k) S128x128.size j2, p0⟩])) := by
  subst h0 h1 h2 h3
  refine rows_codes v5 f5 k.val hk j2 j4 j6 j8 (k0_off2_eq k) (k0_off4_eq k) (k0_off6_eq k) (k0_off8_eq k) _ _ _ _ _ R ?_ ?_ ?_ ?_ h
  · intro r l R' q hR hq; rw [tcode_apply, tile_row v2 f2 i2 k.val 0 (k0_off2_eq k) r R' hR, bcode_at _ R' 0 l q hq]
  · intro r l R' q hR hq; rw [tcode_apply, tile_row v2 f2 i4 k.val 1 (k0_off4_eq k) r R' hR, bcode_at _ R' 1 l q hq]
  · intro r l R' q hR hq; rw [tcode_apply, tile_row v2 f2 i6 k.val 2 (k0_off6_eq k) r R' hR, bcode_at _ R' 2 l q hq]
  · intro r l R' q hR hq; rw [tcode_apply, tile_row v2 f2 i8 k.val 3 (k0_off8_eq k) r R' hR, bcode_at _ R' 3 l q hq]

theorem deq_step (i : grid0.Coords) (v7 : View sig .tc sp7 S2x1536x512 .bf16) (f7 : v7.ty.Contents (Elt Ideal))
    (i2 : ∀ a, k0_off2 k a + S128x128.size a ≤ S1536x512.size a) (i4 : ∀ a, k0_off4 k a + S128x128.size a ≤ S1536x512.size a)
    (i6 : ∀ a, k0_off6 k a + S128x128.size a ≤ S1536x512.size a) (i8 : ∀ a, k0_off8 k a + S128x128.size a ≤ S1536x512.size a)
    (j3 : ∀ a, k0_off3 i k a + S1x128x128.size a ≤ S2x1536x512.size a) (j5 : ∀ a, k0_off5 i k a + S1x128x128.size a ≤ S2x1536x512.size a)
    (j7 : ∀ a, k0_off7 i k a + S1x128x128.size a ≤ S2x1536x512.size a) (j9 : ∀ a, k0_off9 i k a + S1x128x128.size a ≤ S2x1536x512.size a)
    (p0 p1 p2 p3 : S1x128x128.Idx → EReal) (h0 : p0 = tdeq (tl v2 f2 i2)) (h1 : p1 = tdeq (tl v2 f2 i4)) (h2 : p2 = tdeq (tl v2 f2 i6)) (h3 : p3 = tdeq (tl v2 f2 i8))
    (R : S2x1536x512.Idx → EReal) (h : DeqAt (slot i) (v2.read (Elt Ideal) f2) R k.val (v7.read (Elt Ideal) f7)) :
    DeqAt (slot i) (v2.read (Elt Ideal) f2) R (k.val + 1) (v7.read (Elt Ideal) (v7.writes (Elt Ideal) f7
      [⟨Rect.unit (s := S2x1536x512) (k0_off9 i k) S1x128x128.size j9, p3⟩, ⟨Rect.unit (s := S2x1536x512) (k0_off7 i k) S1x128x128.size j7, p2⟩,
        ⟨Rect.unit (s := S2x1536x512) (k0_off5 i k) S1x128x128.size j5, p1⟩, ⟨Rect.unit (s := S2x1536x512) (k0_off3 i k) S1x128x128.size j3, p0⟩])) := by
  subst h0 h1 h2 h3
  refine rows_deq v7 f7 k.val hk (slot i) j3 j5 j7 j9 (k0_off3_eq i k) (k0_off5_eq i k) (k0_off7_eq i k) (k0_off9_eq i k) _ _ _ _ _ R ?_ ?_ ?_ ?_ h
  · intro r l R' q hR hq; rw [tdeq_apply, tile_row v2 f2 i2 k.val 0 (k0_off2_eq k) r R' hR, bdeq_at _ R' 0 l q hq]
  · intro r l R' q hR hq; rw [tdeq_apply, tile_row v2 f2 i4 k.val 1 (k0_off4_eq k) r R' hR, bdeq_at _ R' 1 l q hq]
  · intro r l R' q hR hq; rw [tdeq_apply, tile_row v2 f2 i6 k.val 2 (k0_off6_eq k) r R' hR, bdeq_at _ R' 2 l q hq]
  · intro r l R' q hR hq; rw [tdeq_apply, tile_row v2 f2 i8 k.val 3 (k0_off8_eq k) r R' hR, bdeq_at _ R' 3 l q hq]

theorem scales_step (i : grid0.Coords) (v6 : View sig .tc sp6 S1536x128 .f32) (f6 : v6.ty.Contents (Elt Ideal))
    (i2 : ∀ a, k0_off2 k a + S128x128.size a ≤ S1536x512.size a) (i4 : ∀ a, k0_off4 k a + S128x128.size a ≤ S1536x512.size a)
    (i6 : ∀ a, k0_off6 k a + S128x128.size a ≤ S1536x512.size a) (i8 : ∀ a, k0_off8 k a + S128x128.size a ≤ S1536x512.size a)
    (i1 j1 : ∀ a, k0_off1 k a + S128x128.size a ≤ S1536x128.size a)
    (p : S128x128.Idx → EReal)
    (hp : p = tlanes i (v6.readAt (Elt Ideal) (Rect.unit (s := S1536x128) (k0_off1 k) S128x128.size i1).toLoadRect f6) (tl v2 f2 i2) (tl v2 f2 i4) (tl v2 f2 i6) (tl v2 f2 i8))
    (R : S1536x128.Idx → EReal) (h : ScalesAt i (v2.read (Elt Ideal) f2) R k.val (v6.read (Elt Ideal) f6)) :
    ScalesAt i (v2.read (Elt Ideal) f2) R (k.val + 1) (v6.read (Elt Ideal) (v6.writes (Elt Ideal) f6
      [⟨Rect.unit (s := S1536x128) (k0_off1 k) S128x128.size j1, p⟩])) := by
  subst hp
  refine rows_scale v6 f6 k.val hk j1 (k0_off1_eq k) _ _ R ?_ h
  intro r l R' hR
  refine tlanes_apply i _ _ _ _ _ _ R r l R' ?_ (tile_row v2 f2 i2 k.val 0 (k0_off2_eq k) r R' hR) (tile_row v2 f2 i4 k.val 1 (k0_off4_eq k) r R' hR)
    (tile_row v2 f2 i6 k.val 2 (k0_off6_eq k) r R' hR) (tile_row v2 f2 i8 k.val 3 (k0_off8_eq k) r R' hR)
  rw [tile_at v6 f6 i1 k.val (k0_off1_eq k) r l R' hR, h, if_neg (by omega)]
end Pure

theorem trip_lt (k : Fin k0_t1_loop.trips) : k.val < 12 := Nat.lt_of_lt_of_le k.isLt k0_t1_abs.2.1

set_option maxHeartbeats 8000000 in
/-- One trip. -/
theorem trip (𝒱 : Variants) (c : Dev nD) (bd : Option 𝒱.V) (E : Set ℕ) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole) (k0_h1 : k0_cond1 i = 1#1) (k : Fin k0_t1_loop.trips)
    (f2 : BufTy.Contents (Elt Ideal) arg2.view.ty) (f5 : BufTy.Contents (Elt Ideal) arg5.view.ty) (f6 : BufTy.Contents (Elt Ideal) arg6.view.ty) (f7 : BufTy.Contents (Elt Ideal) arg7.view.ty)
    (R5 : S1536x512.Idx → EReal) (R6 : S1536x128.Idx → EReal) (R7 : S2x1536x512.Idx → EReal)
    (h5 : CodesAt (arg2.view.read (Elt Ideal) f2) R5 k.val (arg5.view.read (Elt Ideal) f5))
    (h6 : ScalesAt i (arg2.view.read (Elt Ideal) f2) R6 k.val (arg6.view.read (Elt Ideal) f6))
    (h7 : DeqAt (slot i) (arg2.view.read (Elt Ideal) f2) R7 k.val (arg7.view.read (Elt Ideal) f7)) :
    iprop((arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))
    ⊢ wp frame (wpE (defs₀ (F := Ideal)) 𝒱 (c : Thread nD τ) bd) E (k0_t1_body (F := Ideal) i arg1 harg1 arg2 harg2 arg3 harg3 arg4 harg4 arg5 harg5 arg6 harg6 arg7 harg7 arg8 harg8 (BitVec.ofNat 32 (i 0).val) k0_h1 (Scalar.remsi (BitVec.ofNat 32 (i 0).val) 2#32) (iota .tc S128x128 32 [1] iota_S128x128_d1_w32) k PUnit.unit)
        (fun _ => (iprop((arg2.view.loc (c : Thread nD τ) ↦[arg2.view.set]{fullShare} f2)
          ∗ (∃ g5, (arg5.view.loc (c : Thread nD τ) ↦[arg5.view.set]{fullShare} g5) ∗ ⌜CodesAt (arg2.view.read (Elt Ideal) f2) R5 (k.val + 1) (arg5.view.read (Elt Ideal) g5)⌝)
          ∗ (∃ g6, (arg6.view.loc (c : Thread nD τ) ↦[arg6.view.set]{fullShare} g6) ∗ ⌜ScalesAt i (arg2.view.read (Elt Ideal) f2) R6 (k.val + 1) (arg6.view.read (Elt Ideal) g6)⌝)
          ∗ (∃ g7, (arg7.view.loc (c : Thread nD τ) ↦[arg7.view.set]{fullShare} g7) ∗ ⌜DeqAt (slot i) (arg2.view.read (Elt Ideal) f2) R7 (k.val + 1) (arg7.view.read (Elt Ideal) g7)⌝)) : sProp 𝕄)) := by
  have hk := trip_lt k
  unfold k0_t1_body
  iintro ⟨H2, H5, H6, H7⟩
  sl_exec
  sl_step
  isplitl [H2]; · iexact H2
  isplitl [H5]
  · iexists _; isplitl [H5]; · iexact H5
    ipureintro
    sl_unfold_run_names
    exact codes_step k hk arg2.view f2 arg5.view f5 _ _ _ _ _ _ _ _ _ _ _ _ rfl (code1 _) (code2 _) (code3 _) R5 h5
  isplitl [H6]
  · iexists _; isplitl [H6]; · iexact H6
    ipureintro
    sl_unfold_run_names
    exact scales_step k hk arg2.view f2 i arg6.view f6 _ _ _ _ _ _ _ rfl R6 h6
  iexists _; isplitl [H7]; · iexact H7
  ipureintro
  sl_unfold_run_names
  exact deq_step k hk arg2.view f2 i arg7.view f7 _ _ _ _ _ _ _ _ _ _ _ _ rfl (deq1 _) (deq2 _) (deq3 _) R7 h7

set_option warn.classDefReducibility false in
/-- The loop by that invariant. -/
def semLoop (𝒱 : Variants) (c : Dev nD) (bd : Option 𝒱.V) (E : Set ℕ) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole) (k0_h1 : k0_cond1 i = 1#1)
    (f2 : BufTy.Contents (Elt Ideal) arg2.view.ty) (R5 : S1536x512.Idx → EReal) (R6 : S1536x128.Idx → EReal) (R7 : S2x1536x512.Idx → EReal) :
    LoopInvTy_k0_t1 (F := Ideal) Unit ℕ (UR sig nD τ) ℕ 𝒱 c bd E i arg1 harg1 arg2 harg2 arg3 harg3 arg4 harg4 arg5 harg5 arg6 harg6 arg7 harg7 arg8 harg8 (BitVec.ofNat 32 (i 0).val) k0_h1 (Scalar.remsi (BitVec.ofNat 32 (i 0).val) 2#32) (iota .tc S128x128 32 [1] iota_S128x128_d1_w32) where
  inv := fun k _ => iprop((arg2.view.loc (c : Thread nD τ) ↦[arg2.view.set]{fullShare} f2)
          ∗ (∃ g5, (arg5.view.loc (c : Thread nD τ) ↦[arg5.view.set]{fullShare} g5) ∗ ⌜CodesAt (arg2.view.read (Elt Ideal) f2) R5 k (arg5.view.read (Elt Ideal) g5)⌝)
          ∗ (∃ g6, (arg6.view.loc (c : Thread nD τ) ↦[arg6.view.set]{fullShare} g6) ∗ ⌜ScalesAt i (arg2.view.read (Elt Ideal) f2) R6 k (arg6.view.read (Elt Ideal) g6)⌝)
          ∗ (∃ g7, (arg7.view.loc (c : Thread nD τ) ↦[arg7.view.set]{fullShare} g7) ∗ ⌜DeqAt (slot i) (arg2.view.read (Elt Ideal) f2) R7 k (arg7.view.read (Elt Ideal) g7)⌝))
  step k acc := by
    iintro ⟨H2, ⟨%g5, H5, %h5⟩, ⟨%g6, H6, %h6⟩, ⟨%g7, H7, %h7⟩⟩
    iapply (trip 𝒱 c bd E i arg1 harg1 arg2 harg2 arg3 harg3 arg4 harg4 arg5 harg5 arg6 harg6 arg7 harg7 arg8 harg8 k0_h1 k f2 g5 g6 g7 R5 R6 R7 h5 h6 h7)
    isplitl [H2]; · iexact H2
    isplitl [H5]; · iexact H5
    isplitl [H6]; · iexact H6
    iexact H7

end Cert.KernelIdeal.Hand

end
-- ==== Proof.Multiply.lean ====
/-
  The product of one point over the extended reals: ten chunks of 256 columns, each the accumulator's chunk (zero at the first product)
  plus the dequantised block times the 256 dequantised rows of the weight.
-/
module

public import proofs.«01_k».proof.Proof.Group
public import Idealize.ShloMosaic.Lib.WritesUnit
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic

/-- A tile of the weight times its scale, -/
abbrev wt (w : Vec Ideal S128x128 .fp8e4m3) (s : EReal) : FVec Ideal S128x128 .bf16 := k0_pay40 (F := Ideal) w s
/-- four of them side by side, -/
abbrev row4 (a b c d : FVec Ideal S128x128 .bf16) : FVec Ideal S128x512 .bf16 :=
  concatenate S128x512 1 [⟨S128x128, a⟩, ⟨S128x128, b⟩, ⟨S128x128, c⟩, ⟨S128x128, d⟩] concatenates_S128x128_S128x128_S128x128_S128x128_S128x512_d1
/-- and two such rows on top of each other. -/
abbrev two (a b : FVec Ideal S128x512 .bf16) : FVec Ideal S256x512 .bf16 :=
  concatenate S256x512 0 [⟨S128x512, a⟩, ⟨S128x512, b⟩] concatenates_S128x512_S128x512_S256x512_d0

theorem wt_apply (w : Vec Ideal S128x128 .fp8e4m3) (s : EReal) (r l : Fin 128) : wt w s (ix2 r l) = w (ix2 r l) * s := by
  pointwise [k0_pay40]

theorem row4_apply (a b c d : FVec Ideal S128x128 .bf16) (f : Fin 512 → EReal) (r : Fin 128)
    (ha : ∀ (l : Fin 128) (q : Fin 512), q.val = 0 + l.val → a (ix2 r l) = f q) (hb : ∀ (l : Fin 128) (q : Fin 512), q.val = 128 + l.val → b (ix2 r l) = f q)
    (hc : ∀ (l : Fin 128) (q : Fin 512), q.val = 256 + l.val → c (ix2 r l) = f q) (hd : ∀ (l : Fin 128) (q : Fin 512), q.val = 384 + l.val → d (ix2 r l) = f q)
    (q : Fin 512) : row4 a b c d (ix2 r q) = f q := by
  pointwise
  split_ifs
  all_goals first
    | (refine ha _ q ?_; dsimp only; omega)
    | (refine hb _ q ?_; dsimp only; omega)
    | (refine hc _ q ?_; dsimp only; omega)
    | (refine hd _ q ?_; dsimp only; omega)

theorem two_apply (a b : FVec Ideal S128x512 .bf16) (f : Fin 256 → Fin 512 → EReal)
    (ha : ∀ (r : Fin 128) (n : Fin 256) (q : Fin 512), n.val = 0 + r.val → a (ix2 r q) = f n q)
    (hb : ∀ (r : Fin 128) (n : Fin 256) (q : Fin 512), n.val = 128 + r.val → b (ix2 r q) = f n q)
    (n : Fin 256) (q : Fin 512) : two a b (ix2 n q) = f n q := by
  pointwise
  split_ifs
  all_goals first
    | (refine ha _ n q ?_; dsimp only; omega)
    | (refine hb _ n q ?_; dsimp only; omega)

theorem pay5_apply (b : BitVec 1) (wm : FVec Ideal S256x512 .bf16) (d : Vec Ideal S1x1536x512 .bf16) (a : Vec Ideal S1536x256 .f32) (r : Fin 1536) (n : Fin 256) :
    k0_pay5 (F := Ideal) b wm d a (ix2 r n) = (if b = 1#1 then 0 else a (ix2 r n)) + ∑ k : Fin 512, d (ix3 0 r k) * wm (ix2 n k) := by
  unfold k0_pay5
  rcases BitVec.eq_zero_or_eq_one b with hb | hb
  · subst hb
    pointwise
    rw [if_neg (by decide)]
  · subst hb
    pointwise

/-- The chunk's product as one expression of what it reads. -/
abbrev chunk (b : BitVec 1) (w00 w01 w02 w03 w10 w11 w12 w13 : Vec Ideal S128x128 .fp8e4m3) (s00 s01 s02 s03 s10 s11 s12 s13 : EReal)
    (d : Vec Ideal S1x1536x512 .bf16) (a : Vec Ideal S1536x256 .f32) : FVec Ideal S1536x256 .f32 :=
  k0_pay5 (F := Ideal) b (two (row4 (wt w00 s00) (wt w01 s01) (wt w02 s02) (wt w03 s03)) (row4 (wt w10 s10) (wt w11 s11) (wt w12 s12) (wt w13 s13))) d a

theorem chunk_apply (n : ℕ) (hn : n < 10) (b : BitVec 1) (w00 w01 w02 w03 w10 w11 w12 w13 : Vec Ideal S128x128 .fp8e4m3) (s00 s01 s02 s03 s10 s11 s12 s13 : EReal)
    (d : Vec Ideal S1x1536x512 .bf16) (a : Vec Ideal S1536x256 .f32)
    (Wf : Fin 2560 → Fin 512 → EReal) (Sf : Fin 20 → Fin 4 → EReal) (Df : Fin 1536 → Fin 512 → EReal) (Af : Fin 1536 → Fin 2560 → EReal)
    (hw00 : ∀ (r l : Fin 128) (N : Fin 2560) (q : Fin 512), N.val = 256 * n + 0 + r.val → q.val = 0 + l.val → w00 (ix2 r l) = Wf N q)
    (hw01 : ∀ (r l : Fin 128) (N : Fin 2560) (q : Fin 512), N.val = 256 * n + 0 + r.val → q.val = 128 + l.val → w01 (ix2 r l) = Wf N q)
    (hw02 : ∀ (r l : Fin 128) (N : Fin 2560) (q : Fin 512), N.val = 256 * n + 0 + r.val → q.val = 256 + l.val → w02 (ix2 r l) = Wf N q)
    (hw03 : ∀ (r l : Fin 128) (N : Fin 2560) (q : Fin 512), N.val = 256 * n + 0 + r.val → q.val = 384 + l.val → w03 (ix2 r l) = Wf N q)
    (hw10 : ∀ (r l : Fin 128) (N : Fin 2560) (q : Fin 512), N.val = 256 * n + 128 + r.val → q.val = 0 + l.val → w10 (ix2 r l) = Wf N q)
    (hw11 : ∀ (r l : Fin 128) (N : Fin 2560) (q : Fin 512), N.val = 256 * n + 128 + r.val → q.val = 128 + l.val → w11 (ix2 r l) = Wf N q)
    (hw12 : ∀ (r l : Fin 128) (N : Fin 2560) (q : Fin 512), N.val = 256 * n + 128 + r.val → q.val = 256 + l.val → w12 (ix2 r l) = Wf N q)
    (hw13 : ∀ (r l : Fin 128) (N : Fin 2560) (q : Fin 512), N.val = 256 * n + 128 + r.val → q.val = 384 + l.val → w13 (ix2 r l) = Wf N q)
    (hs00 : ∀ (I : Fin 20), I.val = 2 * n + 0 → s00 = Sf I 0)
    (hs01 : ∀ (I : Fin 20), I.val = 2 * n + 0 → s01 = Sf I 1)
    (hs02 : ∀ (I : Fin 20), I.val = 2 * n + 0 → s02 = Sf I 2)
    (hs03 : ∀ (I : Fin 20), I.val = 2 * n + 0 → s03 = Sf I 3)
    (hs10 : ∀ (I : Fin 20), I.val = 2 * n + 1 → s10 = Sf I 0)
    (hs11 : ∀ (I : Fin 20), I.val = 2 * n + 1 → s11 = Sf I 1)
    (hs12 : ∀ (I : Fin 20), I.val = 2 * n + 1 → s12 = Sf I 2)
    (hs13 : ∀ (I : Fin 20), I.val = 2 * n + 1 → s13 = Sf I 3)
    (hd : ∀ r q, d (ix3 0 r q) = Df r q) (ha : ∀ (r : Fin 1536) (q : Fin 256) (N : Fin 2560), N.val = 256 * n + q.val → a (ix2 r q) = Af r N)
    (r : Fin 1536) (q : Fin 256) (N : Fin 2560) (hN : N.val = 256 * n + q.val) :
    chunk b w00 w01 w02 w03 w10 w11 w12 w13 s00 s01 s02 s03 s10 s11 s12 s13 d a (ix2 r q)
      = (if b = 1#1 then 0 else Af r N) + ∑ k : Fin 512, Df r k * (Wf N k * Sf ⟨N.val / 128, by omega⟩ ⟨k.val / 128, by omega⟩) := by
  refine (pay5_apply _ _ _ _ r q).trans ?_
  rw [ha r q N hN]
  congr 1
  refine Finset.sum_congr rfl fun k _ => ?_
  rw [hd]
  congr 1
  let f : Fin 256 → Fin 512 → EReal := fun n' k => Wf ⟨256 * n + n'.val, by omega⟩ k * Sf ⟨2 * n + n'.val / 128, by omega⟩ ⟨k.val / 128, by omega⟩
  refine (two_apply _ _ f ?_ ?_ q k).trans ?_
  · intro r' n' q' hn'
    refine row4_apply _ _ _ _ (f n') r' ?_ ?_ ?_ ?_ q'
    · intro l q hq
      rw [wt_apply, hw00 r' l ⟨256 * n + n'.val, by omega⟩ q (by show 256 * n + n'.val = _; omega) hq, hs00 ⟨2 * n + n'.val / 128, by omega⟩ (by show 2 * n + n'.val / 128 = _; omega)]
      refine congrArg (fun z => _ * Sf _ z) (Fin.ext ?_)
      show 0 = q.val / 128; omega
    · intro l q hq
      rw [wt_apply, hw01 r' l ⟨256 * n + n'.val, by omega⟩ q (by show 256 * n + n'.val = _; omega) hq, hs01 ⟨2 * n + n'.val / 128, by omega⟩ (by show 2 * n + n'.val / 128 = _; omega)]
      refine congrArg (fun z => _ * Sf _ z) (Fin.ext ?_)
      show 1 = q.val / 128; omega
    · intro l q hq
      rw [wt_apply, hw02 r' l ⟨256 * n + n'.val, by omega⟩ q (by show 256 * n + n'.val = _; omega) hq, hs02 ⟨2 * n + n'.val / 128, by omega⟩ (by show 2 * n + n'.val / 128 = _; omega)]
      refine congrArg (fun z => _ * Sf _ z) (Fin.ext ?_)
      show 2 = q.val / 128; omega
    · intro l q hq
      rw [wt_apply, hw03 r' l ⟨256 * n + n'.val, by omega⟩ q (by show 256 * n + n'.val = _; omega) hq, hs03 ⟨2 * n + n'.val / 128, by omega⟩ (by show 2 * n + n'.val / 128 = _; omega)]
      refine congrArg (fun z => _ * Sf _ z) (Fin.ext ?_)
      show 3 = q.val / 128; omega
  · intro r' n' q' hn'
    refine row4_apply _ _ _ _ (f n') r' ?_ ?_ ?_ ?_ q'
    · intro l q hq
      rw [wt_apply, hw10 r' l ⟨256 * n + n'.val, by omega⟩ q (by show 256 * n + n'.val = _; omega) hq, hs10 ⟨2 * n + n'.val / 128, by omega⟩ (by show 2 * n + n'.val / 128 = _; omega)]
      refine congrArg (fun z => _ * Sf _ z) (Fin.ext ?_)
      show 0 = q.val / 128; omega
    · intro l q hq
      rw [wt_apply, hw11 r' l ⟨256 * n + n'.val, by omega⟩ q (by show 256 * n + n'.val = _; omega) hq, hs11 ⟨2 * n + n'.val / 128, by omega⟩ (by show 2 * n + n'.val / 128 = _; omega)]
      refine congrArg (fun z => _ * Sf _ z) (Fin.ext ?_)
      show 1 = q.val / 128; omega
    · intro l q hq
      rw [wt_apply, hw12 r' l ⟨256 * n + n'.val, by omega⟩ q (by show 256 * n + n'.val = _; omega) hq, hs12 ⟨2 * n + n'.val / 128, by omega⟩ (by show 2 * n + n'.val / 128 = _; omega)]
      refine congrArg (fun z => _ * Sf _ z) (Fin.ext ?_)
      show 2 = q.val / 128; omega
    · intro l q hq
      rw [wt_apply, hw13 r' l ⟨256 * n + n'.val, by omega⟩ q (by show 256 * n + n'.val = _; omega) hq, hs13 ⟨2 * n + n'.val / 128, by omega⟩ (by show 2 * n + n'.val / 128 = _; omega)]
      refine congrArg (fun z => _ * Sf _ z) (Fin.ext ?_)
      show 3 = q.val / 128; omega
  · show Wf _ k * Sf _ _ = _
    congr 2
    · exact Fin.ext hN.symm
    · exact Fin.ext (by show 2 * n + q.val / 128 = N.val / 128; omega)

section Reads
variable {sig : RefSig} {κ : Kind} {sp : Space}

theorem wtile_at (v : View sig κ sp S2560x512 .fp8e4m3) (f : v.ty.Contents (Elt Ideal)) {off : Fin 2 → ℕ}
    (inb : ∀ a, off a + S128x128.size a ≤ S2560x512.size a) (A B : ℕ) (ho : off = ![A, B])
    (r l : Fin 128) (N : Fin 2560) (q : Fin 512) (hN : N.val = A + r.val) (hq : q.val = B + l.val) :
    v.readAt (Elt Ideal) (Rect.unit (s := S2560x512) off S128x128.size inb).toLoadRect f (ix2 r l) = v.read (Elt Ideal) f (ix2 N q) := by
  subst ho
  refine congrArg (v.read (Elt Ideal) f) (funext fun a => Fin.ext ?_)
  fin_cases a
  · show A + 1 * r.val = N.val; omega
  · show B + 1 * l.val = q.val; omega

theorem word_at (v : View sig κ sp S20x76 .f32) (f : v.ty.Contents (Elt Ideal)) {off : Fin 2 → ℕ}
    (inb : ∀ a, off a + S1x1.size a ≤ S20x76.size a) (A B : ℕ) (ho : off = ![A, B]) (x : S1x1.Idx)
    (I : Fin 20) (J : Fin 76) (hI : I.val = A) (hJ : J.val = B) :
    v.readAt (Elt Ideal) (Rect.unit (s := S20x76) off S1x1.size inb).toLoadRect f x = v.read (Elt Ideal) f (ix2 I J) := by
  subst ho
  refine congrArg (v.read (Elt Ideal) f) (funext fun a => Fin.ext ?_)
  have h0 : (x 0).val < 1 := (x 0).isLt
  have h1 : (x 1).val < 1 := (x 1).isLt
  fin_cases a
  · show A + 1 * (x 0).val = I.val; omega
  · show B + 1 * (x 1).val = J.val; omega

theorem slot_at (v : View sig κ sp S2x1536x512 .bf16) (f : v.ty.Contents (Elt Ideal)) {off : Fin 3 → ℕ}
    (inb : ∀ a, off a + S1x1536x512.size a ≤ S2x1536x512.size a) (s : Fin 2) (ho : off = ![s.val, 0, 0])
    (r : Fin 1536) (q : Fin 512) :
    v.readAt (Elt Ideal) (Rect.unit (s := S2x1536x512) off S1x1536x512.size inb).toLoadRect f (ix3 0 r q) = v.read (Elt Ideal) f (ix3 s r q) := by
  subst ho
  refine congrArg (v.read (Elt Ideal) f) (funext fun a => Fin.ext ?_)
  fin_cases a
  · show s.val + 1 * 0 = s.val; omega
  · show 0 + 1 * r.val = r.val; omega
  · show 0 + 1 * q.val = q.val; omega

theorem acc_at (v : View sig κ sp S1536x2560 .f32) (f : v.ty.Contents (Elt Ideal)) {off : Fin 2 → ℕ}
    (inb : ∀ a, off a + S1536x256.size a ≤ S1536x2560.size a) (A : ℕ) (ho : off = ![0, A])
    (r : Fin 1536) (q : Fin 256) (N : Fin 2560) (hN : N.val = A + q.val) :
    v.readAt (Elt Ideal) (Rect.unit (s := S1536x2560) off S1536x256.size inb).toLoadRect f (ix2 r q) = v.read (Elt Ideal) f (ix2 r N) := by
  subst ho
  refine congrArg (v.read (Elt Ideal) f) (funext fun a => Fin.ext ?_)
  fin_cases a
  · show 0 + 1 * r.val = r.val; omega
  · show A + 1 * q.val = N.val; omega

/-- The ten chunks together fill the accumulator. -/
theorem acc_written (v : View sig κ sp S1536x2560 .f32) (f : v.ty.Contents (Elt Ideal))
    (i0 : ∀ a, (![0, 0] : Fin 2 → ℕ) a + S1536x256.size a ≤ S1536x2560.size a)
    (i1 : ∀ a, (![0, 256] : Fin 2 → ℕ) a + S1536x256.size a ≤ S1536x2560.size a)
    (i2 : ∀ a, (![0, 512] : Fin 2 → ℕ) a + S1536x256.size a ≤ S1536x2560.size a)
    (i3 : ∀ a, (![0, 768] : Fin 2 → ℕ) a + S1536x256.size a ≤ S1536x2560.size a)
    (i4 : ∀ a, (![0, 1024] : Fin 2 → ℕ) a + S1536x256.size a ≤ S1536x2560.size a)
    (i5 : ∀ a, (![0, 1280] : Fin 2 → ℕ) a + S1536x256.size a ≤ S1536x2560.size a)
    (i6 : ∀ a, (![0, 1536] : Fin 2 → ℕ) a + S1536x256.size a ≤ S1536x2560.size a)
    (i7 : ∀ a, (![0, 1792] : Fin 2 → ℕ) a + S1536x256.size a ≤ S1536x2560.size a)
    (i8 : ∀ a, (![0, 2048] : Fin 2 → ℕ) a + S1536x256.size a ≤ S1536x2560.size a)
    (i9 : ∀ a, (![0, 2304] : Fin 2 → ℕ) a + S1536x256.size a ≤ S1536x2560.size a)
    (p0 p1 p2 p3 p4 p5 p6 p7 p8 p9 : S1536x256.Idx → EReal) (Q : Fin 1536 → Fin 2560 → EReal)
    (h0 : ∀ (r : Fin 1536) (q : Fin 256) (N : Fin 2560), N.val = 256 * 0 + q.val → p0 (ix2 r q) = Q r N)
    (h1 : ∀ (r : Fin 1536) (q : Fin 256) (N : Fin 2560), N.val = 256 * 1 + q.val → p1 (ix2 r q) = Q r N)
    (h2 : ∀ (r : Fin 1536) (q : Fin 256) (N : Fin 2560), N.val = 256 * 2 + q.val → p2 (ix2 r q) = Q r N)
    (h3 : ∀ (r : Fin 1536) (q : Fin 256) (N : Fin 2560), N.val = 256 * 3 + q.val → p3 (ix2 r q) = Q r N)
    (h4 : ∀ (r : Fin 1536) (q : Fin 256) (N : Fin 2560), N.val = 256 * 4 + q.val → p4 (ix2 r q) = Q r N)
    (h5 : ∀ (r : Fin 1536) (q : Fin 256) (N : Fin 2560), N.val = 256 * 5 + q.val → p5 (ix2 r q) = Q r N)
    (h6 : ∀ (r : Fin 1536) (q : Fin 256) (N : Fin 2560), N.val = 256 * 6 + q.val → p6 (ix2 r q) = Q r N)
    (h7 : ∀ (r : Fin 1536) (q : Fin 256) (N : Fin 2560), N.val = 256 * 7 + q.val → p7 (ix2 r q) = Q r N)
    (h8 : ∀ (r : Fin 1536) (q : Fin 256) (N : Fin 2560), N.val = 256 * 8 + q.val → p8 (ix2 r q) = Q r N)
    (h9 : ∀ (r : Fin 1536) (q : Fin 256) (N : Fin 2560), N.val = 256 * 9 + q.val → p9 (ix2 r q) = Q r N)
    (r : Fin 1536) (N : Fin 2560) :
    v.read (Elt Ideal) (v.writes (Elt Ideal) f [⟨Rect.unit (s := S1536x2560) ![0, 2304] S1536x256.size i9, p9⟩, ⟨Rect.unit (s := S1536x2560) ![0, 2048] S1536x256.size i8, p8⟩, ⟨Rect.unit (s := S1536x2560) ![0, 1792] S1536x256.size i7, p7⟩, ⟨Rect.unit (s := S1536x2560) ![0, 1536] S1536x256.size i6, p6⟩, ⟨Rect.unit (s := S1536x2560) ![0, 1280] S1536x256.size i5, p5⟩, ⟨Rect.unit (s := S1536x2560) ![0, 1024] S1536x256.size i4, p4⟩, ⟨Rect.unit (s := S1536x2560) ![0, 768] S1536x256.size i3, p3⟩, ⟨Rect.unit (s := S1536x2560) ![0, 512] S1536x256.size i2, p2⟩, ⟨Rect.unit (s := S1536x2560) ![0, 256] S1536x256.size i1, p1⟩, ⟨Rect.unit (s := S1536x2560) ![0, 0] S1536x256.size i0, p0⟩]) (ix2 r N) = Q r N := by
  have hr : r.val = 0 + r.val := by omega
  by_cases c9 : 2304 ≤ N.val
  · obtain ⟨q, hq⟩ : ∃ q : Fin 256, N.val = 2304 + q.val := ⟨⟨N.val - 2304, by omega⟩, by show _ = _ + (_ - _); omega⟩
    rw [View.read_writes_cons_unit_of_mem v f i9 p9 _ (ix2 r N) (ix2 r q) rfl (by intro a; fin_cases a <;> assumption)]
    exact h9 r q N (by omega)
  rw [View.read_writes_cons_unit_of_not_mem v f i9 p9 _ (ix2 r N) rfl 1 (.inl (by show N.val < 2304; omega))]
  by_cases c8 : 2048 ≤ N.val
  · obtain ⟨q, hq⟩ : ∃ q : Fin 256, N.val = 2048 + q.val := ⟨⟨N.val - 2048, by omega⟩, by show _ = _ + (_ - _); omega⟩
    rw [View.read_writes_cons_unit_of_mem v f i8 p8 _ (ix2 r N) (ix2 r q) rfl (by intro a; fin_cases a <;> assumption)]
    exact h8 r q N (by omega)
  rw [View.read_writes_cons_unit_of_not_mem v f i8 p8 _ (ix2 r N) rfl 1 (.inl (by show N.val < 2048; omega))]
  by_cases c7 : 1792 ≤ N.val
  · obtain ⟨q, hq⟩ : ∃ q : Fin 256, N.val = 1792 + q.val := ⟨⟨N.val - 1792, by omega⟩, by show _ = _ + (_ - _); omega⟩
    rw [View.read_writes_cons_unit_of_mem v f i7 p7 _ (ix2 r N) (ix2 r q) rfl (by intro a; fin_cases a <;> assumption)]
    exact h7 r q N (by omega)
  rw [View.read_writes_cons_unit_of_not_mem v f i7 p7 _ (ix2 r N) rfl 1 (.inl (by show N.val < 1792; omega))]
  by_cases c6 : 1536 ≤ N.val
  · obtain ⟨q, hq⟩ : ∃ q : Fin 256, N.val = 1536 + q.val := ⟨⟨N.val - 1536, by omega⟩, by show _ = _ + (_ - _); omega⟩
    rw [View.read_writes_cons_unit_of_mem v f i6 p6 _ (ix2 r N) (ix2 r q) rfl (by intro a; fin_cases a <;> assumption)]
    exact h6 r q N (by omega)
  rw [View.read_writes_cons_unit_of_not_mem v f i6 p6 _ (ix2 r N) rfl 1 (.inl (by show N.val < 1536; omega))]
  by_cases c5 : 1280 ≤ N.val
  · obtain ⟨q, hq⟩ : ∃ q : Fin 256, N.val = 1280 + q.val := ⟨⟨N.val - 1280, by omega⟩, by show _ = _ + (_ - _); omega⟩
    rw [View.read_writes_cons_unit_of_mem v f i5 p5 _ (ix2 r N) (ix2 r q) rfl (by intro a; fin_cases a <;> assumption)]
    exact h5 r q N (by omega)
  rw [View.read_writes_cons_unit_of_not_mem v f i5 p5 _ (ix2 r N) rfl 1 (.inl (by show N.val < 1280; omega))]
  by_cases c4 : 1024 ≤ N.val
  · obtain ⟨q, hq⟩ : ∃ q : Fin 256, N.val = 1024 + q.val := ⟨⟨N.val - 1024, by omega⟩, by show _ = _ + (_ - _); omega⟩
    rw [View.read_writes_cons_unit_of_mem v f i4 p4 _ (ix2 r N) (ix2 r q) rfl (by intro a; fin_cases a <;> assumption)]
    exact h4 r q N (by omega)
  rw [View.read_writes_cons_unit_of_not_mem v f i4 p4 _ (ix2 r N) rfl 1 (.inl (by show N.val < 1024; omega))]
  by_cases c3 : 768 ≤ N.val
  · obtain ⟨q, hq⟩ : ∃ q : Fin 256, N.val = 768 + q.val := ⟨⟨N.val - 768, by omega⟩, by show _ = _ + (_ - _); omega⟩
    rw [View.read_writes_cons_unit_of_mem v f i3 p3 _ (ix2 r N) (ix2 r q) rfl (by intro a; fin_cases a <;> assumption)]
    exact h3 r q N (by omega)
  rw [View.read_writes_cons_unit_of_not_mem v f i3 p3 _ (ix2 r N) rfl 1 (.inl (by show N.val < 768; omega))]
  by_cases c2 : 512 ≤ N.val
  · obtain ⟨q, hq⟩ : ∃ q : Fin 256, N.val = 512 + q.val := ⟨⟨N.val - 512, by omega⟩, by show _ = _ + (_ - _); omega⟩
    rw [View.read_writes_cons_unit_of_mem v f i2 p2 _ (ix2 r N) (ix2 r q) rfl (by intro a; fin_cases a <;> assumption)]
    exact h2 r q N (by omega)
  rw [View.read_writes_cons_unit_of_not_mem v f i2 p2 _ (ix2 r N) rfl 1 (.inl (by show N.val < 512; omega))]
  by_cases c1 : 256 ≤ N.val
  · obtain ⟨q, hq⟩ : ∃ q : Fin 256, N.val = 256 + q.val := ⟨⟨N.val - 256, by omega⟩, by show _ = _ + (_ - _); omega⟩
    rw [View.read_writes_cons_unit_of_mem v f i1 p1 _ (ix2 r N) (ix2 r q) rfl (by intro a; fin_cases a <;> assumption)]
    exact h1 r q N (by omega)
  rw [View.read_writes_cons_unit_of_not_mem v f i1 p1 _ (ix2 r N) rfl 1 (.inl (by show N.val < 256; omega))]
  obtain ⟨q, hq⟩ : ∃ q : Fin 256, N.val = 0 + q.val := ⟨⟨N.val, by omega⟩, (Nat.zero_add _).symm⟩
  rw [View.read_writes_cons_unit_of_mem v f i0 p0 _ (ix2 r N) (ix2 r q) rfl (by intro a; fin_cases a <;> assumption)]
  exact h0 r q N (by omega)

/-- A load of the whole accumulator after stores that fill it. -/
theorem cov_whole (v : View sig κ sp S1536x2560 .f32) (L : List (View.Piece (Elt Ideal) S1536x2560 .f32))
    (inb : ∀ a, (![0, 0] : Fin 2 → ℕ) a + S1536x2560.size a ≤ S1536x2560.size a) (r : Fin 1536) (N : Fin 2560) :
    v.readCov L (Rect.unit (s := S1536x2560) ![0, 0] S1536x2560.size inb).toLoadRect (ix2 r N)
      = v.read (Elt Ideal) (v.writes (Elt Ideal) v.junk L) (ix2 r N) := by
  refine congrArg (v.read (Elt Ideal) (v.writes (Elt Ideal) v.junk L)) (funext fun a => Fin.ext ?_)
  fin_cases a
  · show 0 + 1 * r.val = r.val; omega
  · show 0 + 1 * N.val = N.val; omega

/-- A store of the whole block. -/
theorem out_written (v : View sig κ sp S1536x2560 .bf16) (f : v.ty.Contents (Elt Ideal))
    (inb : ∀ a, (![0, 0] : Fin 2 → ℕ) a + S1536x2560.size a ≤ S1536x2560.size a) (p : S1536x2560.Idx → EReal) (r : Fin 1536) (N : Fin 2560) :
    v.read (Elt Ideal) (v.writes (Elt Ideal) f [⟨Rect.unit (s := S1536x2560) ![0, 0] S1536x2560.size inb, p⟩]) (ix2 r N) = p (ix2 r N) := by
  have h0 : r.val = 0 + r.val := by omega
  have h1 : N.val = 0 + N.val := by omega
  rw [View.read_writes_cons_unit_of_mem v f inb p _ (ix2 r N) (ix2 r N) rfl (by intro a; fin_cases a <;> assumption)]
end Reads

/-! ## Where the words and the slot of a point lie -/

/-- The slot a point reads: the one the point before it wrote. -/
def oslot (i : grid0.Coords) : Fin 2 := ⟨((i 0).val + 1) % 2, Nat.mod_lt _ (by decide)⟩

theorem off12 : ∀ i : grid0.Coords, k0_off12 i = ![(oslot i).val, 0, 0] := by decide +kernel
theorem first_bit : ∀ i : grid0.Coords, Scalar.cmpi .eq (BitVec.ofNat 32 (i 0).val) 1#32 = if (i 0).val = 1 then 1#1 else 0#1 := by decide +kernel
theorem mul_pos' : ∀ i : grid0.Coords, k0_cond2 i = 1#1 → 1 ≤ (i 0).val := by decide +kernel
theorem off10_eq : ∀ i : grid0.Coords, k0_cond2 i = 1#1 → ∀ j : Fin 4, k0_off10 i (BitVec.ofNat 32 j.val) = ![0, 4 * ((i 0).val - 1) + j.val] := by decide +kernel
theorem off11_eq : ∀ i : grid0.Coords, k0_cond2 i = 1#1 → ∀ j : Fin 4, k0_off11 i (BitVec.ofNat 32 j.val) = ![1, 4 * ((i 0).val - 1) + j.val] := by decide +kernel
theorem off13_eq : ∀ i : grid0.Coords, k0_cond2 i = 1#1 → ∀ j : Fin 4, k0_off13 i (BitVec.ofNat 32 j.val) = ![2, 4 * ((i 0).val - 1) + j.val] := by decide +kernel
theorem off14_eq : ∀ i : grid0.Coords, k0_cond2 i = 1#1 → ∀ j : Fin 4, k0_off14 i (BitVec.ofNat 32 j.val) = ![3, 4 * ((i 0).val - 1) + j.val] := by decide +kernel
theorem off15_eq : ∀ i : grid0.Coords, k0_cond2 i = 1#1 → ∀ j : Fin 4, k0_off15 i (BitVec.ofNat 32 j.val) = ![4, 4 * ((i 0).val - 1) + j.val] := by decide +kernel
theorem off16_eq : ∀ i : grid0.Coords, k0_cond2 i = 1#1 → ∀ j : Fin 4, k0_off16 i (BitVec.ofNat 32 j.val) = ![5, 4 * ((i 0).val - 1) + j.val] := by decide +kernel
theorem off17_eq : ∀ i : grid0.Coords, k0_cond2 i = 1#1 → ∀ j : Fin 4, k0_off17 i (BitVec.ofNat 32 j.val) = ![6, 4 * ((i 0).val - 1) + j.val] := by decide +kernel
theorem off18_eq : ∀ i : grid0.Coords, k0_cond2 i = 1#1 → ∀ j : Fin 4, k0_off18 i (BitVec.ofNat 32 j.val) = ![7, 4 * ((i 0).val - 1) + j.val] := by decide +kernel
theorem off19_eq : ∀ i : grid0.Coords, k0_cond2 i = 1#1 → ∀ j : Fin 4, k0_off19 i (BitVec.ofNat 32 j.val) = ![8, 4 * ((i 0).val - 1) + j.val] := by decide +kernel
theorem off20_eq : ∀ i : grid0.Coords, k0_cond2 i = 1#1 → ∀ j : Fin 4, k0_off20 i (BitVec.ofNat 32 j.val) = ![9, 4 * ((i 0).val - 1) + j.val] := by decide +kernel
theorem off21_eq : ∀ i : grid0.Coords, k0_cond2 i = 1#1 → ∀ j : Fin 4, k0_off21 i (BitVec.ofNat 32 j.val) = ![10, 4 * ((i 0).val - 1) + j.val] := by decide +kernel
theorem off22_eq : ∀ i : grid0.Coords, k0_cond2 i = 1#1 → ∀ j : Fin 4, k0_off22 i (BitVec.ofNat 32 j.val) = ![11, 4 * ((i 0).val - 1) + j.val] := by decide +kernel
theorem off23_eq : ∀ i : grid0.Coords, k0_cond2 i = 1#1 → ∀ j : Fin 4, k0_off23 i (BitVec.ofNat 32 j.val) = ![12, 4 * ((i 0).val - 1) + j.val] := by decide +kernel
theorem off24_eq : ∀ i : grid0.Coords, k0_cond2 i = 1#1 → ∀ j : Fin 4, k0_off24 i (BitVec.ofNat 32 j.val) = ![13, 4 * ((i 0).val - 1) + j.val] := by decide +kernel
theorem off25_eq : ∀ i : grid0.Coords, k0_cond2 i = 1#1 → ∀ j : Fin 4, k0_off25 i (BitVec.ofNat 32 j.val) = ![14, 4 * ((i 0).val - 1) + j.val] := by decide +kernel
theorem off26_eq : ∀ i : grid0.Coords, k0_cond2 i = 1#1 → ∀ j : Fin 4, k0_off26 i (BitVec.ofNat 32 j.val) = ![15, 4 * ((i 0).val - 1) + j.val] := by decide +kernel
theorem off27_eq : ∀ i : grid0.Coords, k0_cond2 i = 1#1 → ∀ j : Fin 4, k0_off27 i (BitVec.ofNat 32 j.val) = ![16, 4 * ((i 0).val - 1) + j.val] := by decide +kernel
theorem off28_eq : ∀ i : grid0.Coords, k0_cond2 i = 1#1 → ∀ j : Fin 4, k0_off28 i (BitVec.ofNat 32 j.val) = ![17, 4 * ((i 0).val - 1) + j.val] := by decide +kernel
theorem off29_eq : ∀ i : grid0.Coords, k0_cond2 i = 1#1 → ∀ j : Fin 4, k0_off29 i (BitVec.ofNat 32 j.val) = ![18, 4 * ((i 0).val - 1) + j.val] := by decide +kernel
theorem off30_eq : ∀ i : grid0.Coords, k0_cond2 i = 1#1 → ∀ j : Fin 4, k0_off30 i (BitVec.ofNat 32 j.val) = ![19, 4 * ((i 0).val - 1) + j.val] := by decide +kernel

/-- The accumulator after a point, from the one before it, the slot it reads, the weight's block and the weight's scales. -/
def accOf (i : grid0.Coords) (S : S20x76.Idx → EReal) (W : S2560x512.Idx → EReal) (D : S2x1536x512.Idx → EReal) (A : S1536x2560.Idx → EReal)
    (r : Fin 1536) (N : Fin 2560) : EReal :=
  (if (i 0).val = 1 then 0 else A (ix2 r N)) + ∑ k : Fin 512, D (ix3 (oslot i) r k) * (W (ix2 N k)
    * S (ix2 ⟨N.val / 128, by omega⟩ ⟨4 * ((i 0).val - 1) + k.val / 128, by have h : (i 0).val < 20 := (i 0).isLt; omega⟩))

section Chunks
variable (i : grid0.Coords) (h2 : k0_cond2 i = 1#1) {sp1 sp3 sp7 sp8 : Space} (b : BitVec 1) (hb : b = if (i 0).val = 1 then 1#1 else 0#1)
  (v1 : View sig .tc sp1 S20x76 .f32) (f1 : v1.ty.Contents (Elt Ideal)) (v3 : View sig .tc sp3 S2560x512 .fp8e4m3) (f3 : v3.ty.Contents (Elt Ideal))
  (v7 : View sig .tc sp7 S2x1536x512 .bf16) (f7 : v7.ty.Contents (Elt Ideal)) (v8 : View sig .tc sp8 S1536x2560 .f32) (f8 : v8.ty.Contents (Elt Ideal))
include h2 hb

theorem chunk0 (j0_0 : ∀ a, k0_off10 i 0#32 a + S1x1.size a ≤ S20x76.size a) (j0_1 : ∀ a, k0_off10 i 1#32 a + S1x1.size a ≤ S20x76.size a) (j0_2 : ∀ a, k0_off10 i 2#32 a + S1x1.size a ≤ S20x76.size a) (j0_3 : ∀ a, k0_off10 i 3#32 a + S1x1.size a ≤ S20x76.size a) (j1_0 : ∀ a, k0_off11 i 0#32 a + S1x1.size a ≤ S20x76.size a) (j1_1 : ∀ a, k0_off11 i 1#32 a + S1x1.size a ≤ S20x76.size a) (j1_2 : ∀ a, k0_off11 i 2#32 a + S1x1.size a ≤ S20x76.size a) (j1_3 : ∀ a, k0_off11 i 3#32 a + S1x1.size a ≤ S20x76.size a) (x00 x01 x02 x03 x10 x11 x12 x13 : S1x1.Idx)
    (j7 : ∀ a, k0_off12 i a + S1x1536x512.size a ≤ S2x1536x512.size a) (p : S1536x256.Idx → EReal)
    (hp : p = chunk b (v3.readAt (Elt Ideal) (Rect.unit (s := S2560x512) ![0, 0] S128x128.size inb_S2560x512_S128x128_0_0).toLoadRect f3) (v3.readAt (Elt Ideal) (Rect.unit (s := S2560x512) ![0, 128] S128x128.size inb_S2560x512_S128x128_0_128).toLoadRect f3) (v3.readAt (Elt Ideal) (Rect.unit (s := S2560x512) ![0, 256] S128x128.size inb_S2560x512_S128x128_0_256).toLoadRect f3) (v3.readAt (Elt Ideal) (Rect.unit (s := S2560x512) ![0, 384] S128x128.size inb_S2560x512_S128x128_0_384).toLoadRect f3) (v3.readAt (Elt Ideal) (Rect.unit (s := S2560x512) ![128, 0] S128x128.size inb_S2560x512_S128x128_128_0).toLoadRect f3) (v3.readAt (Elt Ideal) (Rect.unit (s := S2560x512) ![128, 128] S128x128.size inb_S2560x512_S128x128_128_128).toLoadRect f3) (v3.readAt (Elt Ideal) (Rect.unit (s := S2560x512) ![128, 256] S128x128.size inb_S2560x512_S128x128_128_256).toLoadRect f3) (v3.readAt (Elt Ideal) (Rect.unit (s := S2560x512) ![128, 384] S128x128.size inb_S2560x512_S128x128_128_384).toLoadRect f3)
      (v1.readAt (Elt Ideal) (Rect.unit (s := S20x76) (k0_off10 i 0#32) S1x1.size (j0_0)).toLoadRect f1 x00) (v1.readAt (Elt Ideal) (Rect.unit (s := S20x76) (k0_off10 i 1#32) S1x1.size (j0_1)).toLoadRect f1 x01) (v1.readAt (Elt Ideal) (Rect.unit (s := S20x76) (k0_off10 i 2#32) S1x1.size (j0_2)).toLoadRect f1 x02) (v1.readAt (Elt Ideal) (Rect.unit (s := S20x76) (k0_off10 i 3#32) S1x1.size (j0_3)).toLoadRect f1 x03) (v1.readAt (Elt Ideal) (Rect.unit (s := S20x76) (k0_off11 i 0#32) S1x1.size (j1_0)).toLoadRect f1 x10) (v1.readAt (Elt Ideal) (Rect.unit (s := S20x76) (k0_off11 i 1#32) S1x1.size (j1_1)).toLoadRect f1 x11) (v1.readAt (Elt Ideal) (Rect.unit (s := S20x76) (k0_off11 i 2#32) S1x1.size (j1_2)).toLoadRect f1 x12) (v1.readAt (Elt Ideal) (Rect.unit (s := S20x76) (k0_off11 i 3#32) S1x1.size (j1_3)).toLoadRect f1 x13)
      (v7.readAt (Elt Ideal) (Rect.unit (s := S2x1536x512) (k0_off12 i) S1x1536x512.size j7).toLoadRect f7)
      (v8.readAt (Elt Ideal) (Rect.unit (s := S1536x2560) ![0, 0] S1536x256.size inb_S1536x2560_S1536x256_0_0).toLoadRect f8))
    (r : Fin 1536) (q : Fin 256) (N : Fin 2560) (hN : N.val = 256 * 0 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 0 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 0 0 rfl r l N q (by omega) hq)
    (fun r l N q hN hq => wtile_at v3 f3 _ 0 128 rfl r l N q (by omega) hq)
    (fun r l N q hN hq => wtile_at v3 f3 _ 0 256 rfl r l N q (by omega) hq)
    (fun r l N q hN hq => wtile_at v3 f3 _ 0 384 rfl r l N q (by omega) hq)
    (fun r l N q hN hq => wtile_at v3 f3 _ 128 0 rfl r l N q (by omega) hq)
    (fun r l N q hN hq => wtile_at v3 f3 _ 128 128 rfl r l N q (by omega) hq)
    (fun r l N q hN hq => wtile_at v3 f3 _ 128 256 rfl r l N q (by omega) hq)
    (fun r l N q hN hq => wtile_at v3 f3 _ 128 384 rfl r l N q (by omega) hq)
    (fun I hI => word_at v1 f1 _ _ _ (off10_eq i h2 0) x00 I _ (by omega) rfl)
    (fun I hI => word_at v1 f1 _ _ _ (off10_eq i h2 1) x01 I _ (by omega) rfl)
    (fun I hI => word_at v1 f1 _ _ _ (off10_eq i h2 2) x02 I _ (by omega) rfl)
    (fun I hI => word_at v1 f1 _ _ _ (off10_eq i h2 3) x03 I _ (by omega) rfl)
    (fun I hI => word_at v1 f1 _ _ _ (off11_eq i h2 0) x10 I _ (by omega) rfl)
    (fun I hI => word_at v1 f1 _ _ _ (off11_eq i h2 1) x11 I _ (by omega) rfl)
    (fun I hI => word_at v1 f1 _ _ _ (off11_eq i h2 2) x12 I _ (by omega) rfl)
    (fun I hI => word_at v1 f1 _ _ _ (off11_eq i h2 3) x13 I _ (by omega) rfl)
    (fun r q => slot_at v7 f7 _ (oslot i) (off12 i) r q) (fun r q N hN => acc_at v8 f8 _ 0 rfl r q N (by omega)) r q N hN).trans ?_
  unfold accOf
  subst hb
  by_cases h : (i 0).val = 1
  · rw [if_pos h, if_pos h, if_pos rfl]
  · rw [if_neg h, if_neg h, if_neg (by decide)]

theorem chunk1 (j2_0 : ∀ a, k0_off13 i 0#32 a + S1x1.size a ≤ S20x76.size a) (j2_1 : ∀ a, k0_off13 i 1#32 a + S1x1.size a ≤ S20x76.size a) (j2_2 : ∀ a, k0_off13 i 2#32 a + S1x1.size a ≤ S20x76.size a) (j2_3 : ∀ a, k0_off13 i 3#32 a + S1x1.size a ≤ S20x76.size a) (j3_0 : ∀ a, k0_off14 i 0#32 a + S1x1.size a ≤ S20x76.size a) (j3_1 : ∀ a, k0_off14 i 1#32 a + S1x1.size a ≤ S20x76.size a) (j3_2 : ∀ a, k0_off14 i 2#32 a + S1x1.size a ≤ S20x76.size a) (j3_3 : ∀ a, k0_off14 i 3#32 a + S1x1.size a ≤ S20x76.size a) (x20 x21 x22 x23 x30 x31 x32 x33 : S1x1.Idx)
    (j7 : ∀ a, k0_off12 i a + S1x1536x512.size a ≤ S2x1536x512.size a) (p : S1536x256.Idx → EReal)
    (hp : p = chunk b (v3.readAt (Elt Ideal) (Rect.unit (s := S2560x512) ![256, 0] S128x128.size inb_S2560x512_S128x128_256_0).toLoadRect f3) (v3.readAt (Elt Ideal) (Rect.unit (s := S2560x512) ![256, 128] S128x128.size inb_S2560x512_S128x128_256_128).toLoadRect f3) (v3.readAt (Elt Ideal) (Rect.unit (s := S2560x512) ![256, 256] S128x128.size inb_S2560x512_S128x128_256_256).toLoadRect f3) (v3.readAt (Elt Ideal) (Rect.unit (s := S2560x512) ![256, 384] S128x128.size inb_S2560x512_S128x128_256_384).toLoadRect f3) (v3.readAt (Elt Ideal) (Rect.unit (s := S2560x512) ![384, 0] S128x128.size inb_S2560x512_S128x128_384_0).toLoadRect f3) (v3.readAt (Elt Ideal) (Rect.unit (s := S2560x512) ![384, 128] S128x128.size inb_S2560x512_S128x128_384_128).toLoadRect f3) (v3.readAt (Elt Ideal) (Rect.unit (s := S2560x512) ![384, 256] S128x128.size inb_S2560x512_S128x128_384_256).toLoadRect f3) (v3.readAt (Elt Ideal) (Rect.unit (s := S2560x512) ![384, 384] S128x128.size inb_S2560x512_S128x128_384_384).toLoadRect f3)
      (v1.readAt (Elt Ideal) (Rect.unit (s := S20x76) (k0_off13 i 0#32) S1x1.size (j2_0)).toLoadRect f1 x20) (v1.readAt (Elt Ideal) (Rect.unit (s := S20x76) (k0_off13 i 1#32) S1x1.size (j2_1)).toLoadRect f1 x21) (v1.readAt (Elt Ideal) (Rect.unit (s := S20x76) (k0_off13 i 2#32) S1x1.size (j2_2)).toLoadRect f1 x22) (v1.readAt (Elt Ideal) (Rect.unit (s := S20x76) (k0_off13 i 3#32) S1x1.size (j2_3)).toLoadRect f1 x23) (v1.readAt (Elt Ideal) (Rect.unit (s := S20x76) (k0_off14 i 0#32) S1x1.size (j3_0)).toLoadRect f1 x30) (v1.readAt (Elt Ideal) (Rect.unit (s := S20x76) (k0_off14 i 1#32) S1x1.size (j3_1)).toLoadRect f1 x31) (v1.readAt (Elt Ideal) (Rect.unit (s := S20x76) (k0_off14 i 2#32) S1x1.size (j3_2)).toLoadRect f1 x32) (v1.readAt (Elt Ideal) (Rect.unit (s := S20x76) (k0_off14 i 3#32) S1x1.size (j3_3)).toLoadRect f1 x33)
      (v7.readAt (Elt Ideal) (Rect.unit (s := S2x1536x512) (k0_off12 i) S1x1536x512.size j7).toLoadRect f7)
      (v8.readAt (Elt Ideal) (Rect.unit (s := S1536x2560) ![0, 256] S1536x256.size inb_S1536x2560_S1536x256_0_256).toLoadRect f8))
    (r : Fin 1536) (q : Fin 256) (N : Fin 2560) (hN : N.val = 256 * 1 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 1 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 256 0 rfl r l N q (by omega) hq)
    (fun r l N q hN hq => wtile_at v3 f3 _ 256 128 rfl r l N q (by omega) hq)
    (fun r l N q hN hq => wtile_at v3 f3 _ 256 256 rfl r l N q (by omega) hq)
    (fun r l N q hN hq => wtile_at v3 f3 _ 256 384 rfl r l N q (by omega) hq)
    (fun r l N q hN hq => wtile_at v3 f3 _ 384 0 rfl r l N q (by omega) hq)
    (fun r l N q hN hq => wtile_at v3 f3 _ 384 128 rfl r l N q (by omega) hq)
    (fun r l N q hN hq => wtile_at v3 f3 _ 384 256 rfl r l N q (by omega) hq)
    (fun r l N q hN hq => wtile_at v3 f3 _ 384 384 rfl r l N q (by omega) hq)
    (fun I hI => word_at v1 f1 _ _ _ (off13_eq i h2 0) x20 I _ (by omega) rfl)
    (fun I hI => word_at v1 f1 _ _ _ (off13_eq i h2 1) x21 I _ (by omega) rfl)
    (fun I hI => word_at v1 f1 _ _ _ (off13_eq i h2 2) x22 I _ (by omega) rfl)
    (fun I hI => word_at v1 f1 _ _ _ (off13_eq i h2 3) x23 I _ (by omega) rfl)
    (fun I hI => word_at v1 f1 _ _ _ (off14_eq i h2 0) x30 I _ (by omega) rfl)
    (fun I hI => word_at v1 f1 _ _ _ (off14_eq i h2 1) x31 I _ (by omega) rfl)
    (fun I hI => word_at v1 f1 _ _ _ (off14_eq i h2 2) x32 I _ (by omega) rfl)
    (fun I hI => word_at v1 f1 _ _ _ (off14_eq i h2 3) x33 I _ (by omega) rfl)
    (fun r q => slot_at v7 f7 _ (oslot i) (off12 i) r q) (fun r q N hN => acc_at v8 f8 _ 256 rfl r q N (by omega)) r q N hN).trans ?_
  unfold accOf
  subst hb
  by_cases h : (i 0).val = 1
  · rw [if_pos h, if_pos h, if_pos rfl]
  · rw [if_neg h, if_neg h, if_neg (by decide)]

theorem chunk2 (j4_0 : ∀ a, k0_off15 i 0#32 a + S1x1.size a ≤ S20x76.size a) (j4_1 : ∀ a, k0_off15 i 1#32 a + S1x1.size a ≤ S20x76.size a) (j4_2 : ∀ a, k0_off15 i 2#32 a + S1x1.size a ≤ S20x76.size a) (j4_3 : ∀ a, k0_off15 i 3#32 a + S1x1.size a ≤ S20x76.size a) (j5_0 : ∀ a, k0_off16 i 0#32 a + S1x1.size a ≤ S20x76.size a) (j5_1 : ∀ a, k0_off16 i 1#32 a + S1x1.size a ≤ S20x76.size a) (j5_2 : ∀ a, k0_off16 i 2#32 a + S1x1.size a ≤ S20x76.size a) (j5_3 : ∀ a, k0_off16 i 3#32 a + S1x1.size a ≤ S20x76.size a) (x40 x41 x42 x43 x50 x51 x52 x53 : S1x1.Idx)
    (j7 : ∀ a, k0_off12 i a + S1x1536x512.size a ≤ S2x1536x512.size a) (p : S1536x256.Idx → EReal)
    (hp : p = chunk b (v3.readAt (Elt Ideal) (Rect.unit (s := S2560x512) ![512, 0] S128x128.size inb_S2560x512_S128x128_512_0).toLoadRect f3) (v3.readAt (Elt Ideal) (Rect.unit (s := S2560x512) ![512, 128] S128x128.size inb_S2560x512_S128x128_512_128).toLoadRect f3) (v3.readAt (Elt Ideal) (Rect.unit (s := S2560x512) ![512, 256] S128x128.size inb_S2560x512_S128x128_512_256).toLoadRect f3) (v3.readAt (Elt Ideal) (Rect.unit (s := S2560x512) ![512, 384] S128x128.size inb_S2560x512_S128x128_512_384).toLoadRect f3) (v3.readAt (Elt Ideal) (Rect.unit (s := S2560x512) ![640, 0] S128x128.size inb_S2560x512_S128x128_640_0).toLoadRect f3) (v3.readAt (Elt Ideal) (Rect.unit (s := S2560x512) ![640, 128] S128x128.size inb_S2560x512_S128x128_640_128).toLoadRect f3) (v3.readAt (Elt Ideal) (Rect.unit (s := S2560x512) ![640, 256] S128x128.size inb_S2560x512_S128x128_640_256).toLoadRect f3) (v3.readAt (Elt Ideal) (Rect.unit (s := S2560x512) ![640, 384] S128x128.size inb_S2560x512_S128x128_640_384).toLoadRect f3)
      (v1.readAt (Elt Ideal) (Rect.unit (s := S20x76) (k0_off15 i 0#32) S1x1.size (j4_0)).toLoadRect f1 x40) (v1.readAt (Elt Ideal) (Rect.unit (s := S20x76) (k0_off15 i 1#32) S1x1.size (j4_1)).toLoadRect f1 x41) (v1.readAt (Elt Ideal) (Rect.unit (s := S20x76) (k0_off15 i 2#32) S1x1.size (j4_2)).toLoadRect f1 x42) (v1.readAt (Elt Ideal) (Rect.unit (s := S20x76) (k0_off15 i 3#32) S1x1.size (j4_3)).toLoadRect f1 x43) (v1.readAt (Elt Ideal) (Rect.unit (s := S20x76) (k0_off16 i 0#32) S1x1.size (j5_0)).toLoadRect f1 x50) (v1.readAt (Elt Ideal) (Rect.unit (s := S20x76) (k0_off16 i 1#32) S1x1.size (j5_1)).toLoadRect f1 x51) (v1.readAt (Elt Ideal) (Rect.unit (s := S20x76) (k0_off16 i 2#32) S1x1.size (j5_2)).toLoadRect f1 x52) (v1.readAt (Elt Ideal) (Rect.unit (s := S20x76) (k0_off16 i 3#32) S1x1.size (j5_3)).toLoadRect f1 x53)
      (v7.readAt (Elt Ideal) (Rect.unit (s := S2x1536x512) (k0_off12 i) S1x1536x512.size j7).toLoadRect f7)
      (v8.readAt (Elt Ideal) (Rect.unit (s := S1536x2560) ![0, 512] S1536x256.size inb_S1536x2560_S1536x256_0_512).toLoadRect f8))
    (r : Fin 1536) (q : Fin 256) (N : Fin 2560) (hN : N.val = 256 * 2 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 2 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 512 0 rfl r l N q (by omega) hq)
    (fun r l N q hN hq => wtile_at v3 f3 _ 512 128 rfl r l N q (by omega) hq)
    (fun r l N q hN hq => wtile_at v3 f3 _ 512 256 rfl r l N q (by omega) hq)
    (fun r l N q hN hq => wtile_at v3 f3 _ 512 384 rfl r l N q (by omega) hq)
    (fun r l N q hN hq => wtile_at v3 f3 _ 640 0 rfl r l N q (by omega) hq)
    (fun r l N q hN hq => wtile_at v3 f3 _ 640 128 rfl r l N q (by omega) hq)
    (fun r l N q hN hq => wtile_at v3 f3 _ 640 256 rfl r l N q (by omega) hq)
    (fun r l N q hN hq => wtile_at v3 f3 _ 640 384 rfl r l N q (by omega) hq)
    (fun I hI => word_at v1 f1 _ _ _ (off15_eq i h2 0) x40 I _ (by omega) rfl)
    (fun I hI => word_at v1 f1 _ _ _ (off15_eq i h2 1) x41 I _ (by omega) rfl)
    (fun I hI => word_at v1 f1 _ _ _ (off15_eq i h2 2) x42 I _ (by omega) rfl)
    (fun I hI => word_at v1 f1 _ _ _ (off15_eq i h2 3) x43 I _ (by omega) rfl)
    (fun I hI => word_at v1 f1 _ _ _ (off16_eq i h2 0) x50 I _ (by omega) rfl)
    (fun I hI => word_at v1 f1 _ _ _ (off16_eq i h2 1) x51 I _ (by omega) rfl)
    (fun I hI => word_at v1 f1 _ _ _ (off16_eq i h2 2) x52 I _ (by omega) rfl)
    (fun I hI => word_at v1 f1 _ _ _ (off16_eq i h2 3) x53 I _ (by omega) rfl)
    (fun r q => slot_at v7 f7 _ (oslot i) (off12 i) r q) (fun r q N hN => acc_at v8 f8 _ 512 rfl r q N (by omega)) r q N hN).trans ?_
  unfold accOf
  subst hb
  by_cases h : (i 0).val = 1
  · rw [if_pos h, if_pos h, if_pos rfl]
  · rw [if_neg h, if_neg h, if_neg (by decide)]

theorem chunk3 (j6_0 : ∀ a, k0_off17 i 0#32 a + S1x1.size a ≤ S20x76.size a) (j6_1 : ∀ a, k0_off17 i 1#32 a + S1x1.size a ≤ S20x76.size a) (j6_2 : ∀ a, k0_off17 i 2#32 a + S1x1.size a ≤ S20x76.size a) (j6_3 : ∀ a, k0_off17 i 3#32 a + S1x1.size a ≤ S20x76.size a) (j7_0 : ∀ a, k0_off18 i 0#32 a + S1x1.size a ≤ S20x76.size a) (j7_1 : ∀ a, k0_off18 i 1#32 a + S1x1.size a ≤ S20x76.size a) (j7_2 : ∀ a, k0_off18 i 2#32 a + S1x1.size a ≤ S20x76.size a) (j7_3 : ∀ a, k0_off18 i 3#32 a + S1x1.size a ≤ S20x76.size a) (x60 x61 x62 x63 x70 x71 x72 x73 : S1x1.Idx)
    (j7 : ∀ a, k0_off12 i a + S1x1536x512.size a ≤ S2x1536x512.size a) (p : S1536x256.Idx → EReal)
    (hp : p = chunk b (v3.readAt (Elt Ideal) (Rect.unit (s := S2560x512) ![768, 0] S128x128.size inb_S2560x512_S128x128_768_0).toLoadRect f3) (v3.readAt (Elt Ideal) (Rect.unit (s := S2560x512) ![768, 128] S128x128.size inb_S2560x512_S128x128_768_128).toLoadRect f3) (v3.readAt (Elt Ideal) (Rect.unit (s := S2560x512) ![768, 256] S128x128.size inb_S2560x512_S128x128_768_256).toLoadRect f3) (v3.readAt (Elt Ideal) (Rect.unit (s := S2560x512) ![768, 384] S128x128.size inb_S2560x512_S128x128_768_384).toLoadRect f3) (v3.readAt (Elt Ideal) (Rect.unit (s := S2560x512) ![896, 0] S128x128.size inb_S2560x512_S128x128_896_0).toLoadRect f3) (v3.readAt (Elt Ideal) (Rect.unit (s := S2560x512) ![896, 128] S128x128.size inb_S2560x512_S128x128_896_128).toLoadRect f3) (v3.readAt (Elt Ideal) (Rect.unit (s := S2560x512) ![896, 256] S128x128.size inb_S2560x512_S128x128_896_256).toLoadRect f3) (v3.readAt (Elt Ideal) (Rect.unit (s := S2560x512) ![896, 384] S128x128.size inb_S2560x512_S128x128_896_384).toLoadRect f3)
      (v1.readAt (Elt Ideal) (Rect.unit (s := S20x76) (k0_off17 i 0#32) S1x1.size (j6_0)).toLoadRect f1 x60) (v1.readAt (Elt Ideal) (Rect.unit (s := S20x76) (k0_off17 i 1#32) S1x1.size (j6_1)).toLoadRect f1 x61) (v1.readAt (Elt Ideal) (Rect.unit (s := S20x76) (k0_off17 i 2#32) S1x1.size (j6_2)).toLoadRect f1 x62) (v1.readAt (Elt Ideal) (Rect.unit (s := S20x76) (k0_off17 i 3#32) S1x1.size (j6_3)).toLoadRect f1 x63) (v1.readAt (Elt Ideal) (Rect.unit (s := S20x76) (k0_off18 i 0#32) S1x1.size (j7_0)).toLoadRect f1 x70) (v1.readAt (Elt Ideal) (Rect.unit (s := S20x76) (k0_off18 i 1#32) S1x1.size (j7_1)).toLoadRect f1 x71) (v1.readAt (Elt Ideal) (Rect.unit (s := S20x76) (k0_off18 i 2#32) S1x1.size (j7_2)).toLoadRect f1 x72) (v1.readAt (Elt Ideal) (Rect.unit (s := S20x76) (k0_off18 i 3#32) S1x1.size (j7_3)).toLoadRect f1 x73)
      (v7.readAt (Elt Ideal) (Rect.unit (s := S2x1536x512) (k0_off12 i) S1x1536x512.size j7).toLoadRect f7)
      (v8.readAt (Elt Ideal) (Rect.unit (s := S1536x2560) ![0, 768] S1536x256.size inb_S1536x2560_S1536x256_0_768).toLoadRect f8))
    (r : Fin 1536) (q : Fin 256) (N : Fin 2560) (hN : N.val = 256 * 3 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 3 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 768 0 rfl r l N q (by omega) hq)
    (fun r l N q hN hq => wtile_at v3 f3 _ 768 128 rfl r l N q (by omega) hq)
    (fun r l N q hN hq => wtile_at v3 f3 _ 768 256 rfl r l N q (by omega) hq)
    (fun r l N q hN hq => wtile_at v3 f3 _ 768 384 rfl r l N q (by omega) hq)
    (fun r l N q hN hq => wtile_at v3 f3 _ 896 0 rfl r l N q (by omega) hq)
    (fun r l N q hN hq => wtile_at v3 f3 _ 896 128 rfl r l N q (by omega) hq)
    (fun r l N q hN hq => wtile_at v3 f3 _ 896 256 rfl r l N q (by omega) hq)
    (fun r l N q hN hq => wtile_at v3 f3 _ 896 384 rfl r l N q (by omega) hq)
    (fun I hI => word_at v1 f1 _ _ _ (off17_eq i h2 0) x60 I _ (by omega) rfl)
    (fun I hI => word_at v1 f1 _ _ _ (off17_eq i h2 1) x61 I _ (by omega) rfl)
    (fun I hI => word_at v1 f1 _ _ _ (off17_eq i h2 2) x62 I _ (by omega) rfl)
    (fun I hI => word_at v1 f1 _ _ _ (off17_eq i h2 3) x63 I _ (by omega) rfl)
    (fun I hI => word_at v1 f1 _ _ _ (off18_eq i h2 0) x70 I _ (by omega) rfl)
    (fun I hI => word_at v1 f1 _ _ _ (off18_eq i h2 1) x71 I _ (by omega) rfl)
    (fun I hI => word_at v1 f1 _ _ _ (off18_eq i h2 2) x72 I _ (by omega) rfl)
    (fun I hI => word_at v1 f1 _ _ _ (off18_eq i h2 3) x73 I _ (by omega) rfl)
    (fun r q => slot_at v7 f7 _ (oslot i) (off12 i) r q) (fun r q N hN => acc_at v8 f8 _ 768 rfl r q N (by omega)) r q N hN).trans ?_
  unfold accOf
  subst hb
  by_cases h : (i 0).val = 1
  · rw [if_pos h, if_pos h, if_pos rfl]
  · rw [if_neg h, if_neg h, if_neg (by decide)]

theorem chunk4 (j8_0 : ∀ a, k0_off19 i 0#32 a + S1x1.size a ≤ S20x76.size a) (j8_1 : ∀ a, k0_off19 i 1#32 a + S1x1.size a ≤ S20x76.size a) (j8_2 : ∀ a, k0_off19 i 2#32 a + S1x1.size a ≤ S20x76.size a) (j8_3 : ∀ a, k0_off19 i 3#32 a + S1x1.size a ≤ S20x76.size a) (j9_0 : ∀ a, k0_off20 i 0#32 a + S1x1.size a ≤ S20x76.size a) (j9_1 : ∀ a, k0_off20 i 1#32 a + S1x1.size a ≤ S20x76.size a) (j9_2 : ∀ a, k0_off20 i 2#32 a + S1x1.size a ≤ S20x76.size a) (j9_3 : ∀ a, k0_off20 i 3#32 a + S1x1.size a ≤ S20x76.size a) (x80 x81 x82 x83 x90 x91 x92 x93 : S1x1.Idx)
    (j7 : ∀ a, k0_off12 i a + S1x1536x512.size a ≤ S2x1536x512.size a) (p : S1536x256.Idx → EReal)
    (hp : p = chunk b (v3.readAt (Elt Ideal) (Rect.unit (s := S2560x512) ![1024, 0] S128x128.size inb_S2560x512_S128x128_1024_0).toLoadRect f3) (v3.readAt (Elt Ideal) (Rect.unit (s := S2560x512) ![1024, 128] S128x128.size inb_S2560x512_S128x128_1024_128).toLoadRect f3) (v3.readAt (Elt Ideal) (Rect.unit (s := S2560x512) ![1024, 256] S128x128.size inb_S2560x512_S128x128_1024_256).toLoadRect f3) (v3.readAt (Elt Ideal) (Rect.unit (s := S2560x512) ![1024, 384] S128x128.size inb_S2560x512_S128x128_1024_384).toLoadRect f3) (v3.readAt (Elt Ideal) (Rect.unit (s := S2560x512) ![1152, 0] S128x128.size inb_S2560x512_S128x128_1152_0).toLoadRect f3) (v3.readAt (Elt Ideal) (Rect.unit (s := S2560x512) ![1152, 128] S128x128.size inb_S2560x512_S128x128_1152_128).toLoadRect f3) (v3.readAt (Elt Ideal) (Rect.unit (s := S2560x512) ![1152, 256] S128x128.size inb_S2560x512_S128x128_1152_256).toLoadRect f3) (v3.readAt (Elt Ideal) (Rect.unit (s := S2560x512) ![1152, 384] S128x128.size inb_S2560x512_S128x128_1152_384).toLoadRect f3)
      (v1.readAt (Elt Ideal) (Rect.unit (s := S20x76) (k0_off19 i 0#32) S1x1.size (j8_0)).toLoadRect f1 x80) (v1.readAt (Elt Ideal) (Rect.unit (s := S20x76) (k0_off19 i 1#32) S1x1.size (j8_1)).toLoadRect f1 x81) (v1.readAt (Elt Ideal) (Rect.unit (s := S20x76) (k0_off19 i 2#32) S1x1.size (j8_2)).toLoadRect f1 x82) (v1.readAt (Elt Ideal) (Rect.unit (s := S20x76) (k0_off19 i 3#32) S1x1.size (j8_3)).toLoadRect f1 x83) (v1.readAt (Elt Ideal) (Rect.unit (s := S20x76) (k0_off20 i 0#32) S1x1.size (j9_0)).toLoadRect f1 x90) (v1.readAt (Elt Ideal) (Rect.unit (s := S20x76) (k0_off20 i 1#32) S1x1.size (j9_1)).toLoadRect f1 x91) (v1.readAt (Elt Ideal) (Rect.unit (s := S20x76) (k0_off20 i 2#32) S1x1.size (j9_2)).toLoadRect f1 x92) (v1.readAt (Elt Ideal) (Rect.unit (s := S20x76) (k0_off20 i 3#32) S1x1.size (j9_3)).toLoadRect f1 x93)
      (v7.readAt (Elt Ideal) (Rect.unit (s := S2x1536x512) (k0_off12 i) S1x1536x512.size j7).toLoadRect f7)
      (v8.readAt (Elt Ideal) (Rect.unit (s := S1536x2560) ![0, 1024] S1536x256.size inb_S1536x2560_S1536x256_0_1024).toLoadRect f8))
    (r : Fin 1536) (q : Fin 256) (N : Fin 2560) (hN : N.val = 256 * 4 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 4 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 1024 0 rfl r l N q (by omega) hq)
    (fun r l N q hN hq => wtile_at v3 f3 _ 1024 128 rfl r l N q (by omega) hq)
    (fun r l N q hN hq => wtile_at v3 f3 _ 1024 256 rfl r l N q (by omega) hq)
    (fun r l N q hN hq => wtile_at v3 f3 _ 1024 384 rfl r l N q (by omega) hq)
    (fun r l N q hN hq => wtile_at v3 f3 _ 1152 0 rfl r l N q (by omega) hq)
    (fun r l N q hN hq => wtile_at v3 f3 _ 1152 128 rfl r l N q (by omega) hq)
    (fun r l N q hN hq => wtile_at v3 f3 _ 1152 256 rfl r l N q (by omega) hq)
    (fun r l N q hN hq => wtile_at v3 f3 _ 1152 384 rfl r l N q (by omega) hq)
    (fun I hI => word_at v1 f1 _ _ _ (off19_eq i h2 0) x80 I _ (by omega) rfl)
    (fun I hI => word_at v1 f1 _ _ _ (off19_eq i h2 1) x81 I _ (by omega) rfl)
    (fun I hI => word_at v1 f1 _ _ _ (off19_eq i h2 2) x82 I _ (by omega) rfl)
    (fun I hI => word_at v1 f1 _ _ _ (off19_eq i h2 3) x83 I _ (by omega) rfl)
    (fun I hI => word_at v1 f1 _ _ _ (off20_eq i h2 0) x90 I _ (by omega) rfl)
    (fun I hI => word_at v1 f1 _ _ _ (off20_eq i h2 1) x91 I _ (by omega) rfl)
    (fun I hI => word_at v1 f1 _ _ _ (off20_eq i h2 2) x92 I _ (by omega) rfl)
    (fun I hI => word_at v1 f1 _ _ _ (off20_eq i h2 3) x93 I _ (by omega) rfl)
    (fun r q => slot_at v7 f7 _ (oslot i) (off12 i) r q) (fun r q N hN => acc_at v8 f8 _ 1024 rfl r q N (by omega)) r q N hN).trans ?_
  unfold accOf
  subst hb
  by_cases h : (i 0).val = 1
  · rw [if_pos h, if_pos h, if_pos rfl]
  · rw [if_neg h, if_neg h, if_neg (by decide)]

theorem chunk5 (j10_0 : ∀ a, k0_off21 i 0#32 a + S1x1.size a ≤ S20x76.size a) (j10_1 : ∀ a, k0_off21 i 1#32 a + S1x1.size a ≤ S20x76.size a) (j10_2 : ∀ a, k0_off21 i 2#32 a + S1x1.size a ≤ S20x76.size a) (j10_3 : ∀ a, k0_off21 i 3#32 a + S1x1.size a ≤ S20x76.size a) (j11_0 : ∀ a, k0_off22 i 0#32 a + S1x1.size a ≤ S20x76.size a) (j11_1 : ∀ a, k0_off22 i 1#32 a + S1x1.size a ≤ S20x76.size a) (j11_2 : ∀ a, k0_off22 i 2#32 a + S1x1.size a ≤ S20x76.size a) (j11_3 : ∀ a, k0_off22 i 3#32 a + S1x1.size a ≤ S20x76.size a) (x100 x101 x102 x103 x110 x111 x112 x113 : S1x1.Idx)
    (j7 : ∀ a, k0_off12 i a + S1x1536x512.size a ≤ S2x1536x512.size a) (p : S1536x256.Idx → EReal)
    (hp : p = chunk b (v3.readAt (Elt Ideal) (Rect.unit (s := S2560x512) ![1280, 0] S128x128.size inb_S2560x512_S128x128_1280_0).toLoadRect f3) (v3.readAt (Elt Ideal) (Rect.unit (s := S2560x512) ![1280, 128] S128x128.size inb_S2560x512_S128x128_1280_128).toLoadRect f3) (v3.readAt (Elt Ideal) (Rect.unit (s := S2560x512) ![1280, 256] S128x128.size inb_S2560x512_S128x128_1280_256).toLoadRect f3) (v3.readAt (Elt Ideal) (Rect.unit (s := S2560x512) ![1280, 384] S128x128.size inb_S2560x512_S128x128_1280_384).toLoadRect f3) (v3.readAt (Elt Ideal) (Rect.unit (s := S2560x512) ![1408, 0] S128x128.size inb_S2560x512_S128x128_1408_0).toLoadRect f3) (v3.readAt (Elt Ideal) (Rect.unit (s := S2560x512) ![1408, 128] S128x128.size inb_S2560x512_S128x128_1408_128).toLoadRect f3) (v3.readAt (Elt Ideal) (Rect.unit (s := S2560x512) ![1408, 256] S128x128.size inb_S2560x512_S128x128_1408_256).toLoadRect f3) (v3.readAt (Elt Ideal) (Rect.unit (s := S2560x512) ![1408, 384] S128x128.size inb_S2560x512_S128x128_1408_384).toLoadRect f3)
      (v1.readAt (Elt Ideal) (Rect.unit (s := S20x76) (k0_off21 i 0#32) S1x1.size (j10_0)).toLoadRect f1 x100) (v1.readAt (Elt Ideal) (Rect.unit (s := S20x76) (k0_off21 i 1#32) S1x1.size (j10_1)).toLoadRect f1 x101) (v1.readAt (Elt Ideal) (Rect.unit (s := S20x76) (k0_off21 i 2#32) S1x1.size (j10_2)).toLoadRect f1 x102) (v1.readAt (Elt Ideal) (Rect.unit (s := S20x76) (k0_off21 i 3#32) S1x1.size (j10_3)).toLoadRect f1 x103) (v1.readAt (Elt Ideal) (Rect.unit (s := S20x76) (k0_off22 i 0#32) S1x1.size (j11_0)).toLoadRect f1 x110) (v1.readAt (Elt Ideal) (Rect.unit (s := S20x76) (k0_off22 i 1#32) S1x1.size (j11_1)).toLoadRect f1 x111) (v1.readAt (Elt Ideal) (Rect.unit (s := S20x76) (k0_off22 i 2#32) S1x1.size (j11_2)).toLoadRect f1 x112) (v1.readAt (Elt Ideal) (Rect.unit (s := S20x76) (k0_off22 i 3#32) S1x1.size (j11_3)).toLoadRect f1 x113)
      (v7.readAt (Elt Ideal) (Rect.unit (s := S2x1536x512) (k0_off12 i) S1x1536x512.size j7).toLoadRect f7)
      (v8.readAt (Elt Ideal) (Rect.unit (s := S1536x2560) ![0, 1280] S1536x256.size inb_S1536x2560_S1536x256_0_1280).toLoadRect f8))
    (r : Fin 1536) (q : Fin 256) (N : Fin 2560) (hN : N.val = 256 * 5 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 5 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 1280 0 rfl r l N q (by omega) hq)
    (fun r l N q hN hq => wtile_at v3 f3 _ 1280 128 rfl r l N q (by omega) hq)
    (fun r l N q hN hq => wtile_at v3 f3 _ 1280 256 rfl r l N q (by omega) hq)
    (fun r l N q hN hq => wtile_at v3 f3 _ 1280 384 rfl r l N q (by omega) hq)
    (fun r l N q hN hq => wtile_at v3 f3 _ 1408 0 rfl r l N q (by omega) hq)
    (fun r l N q hN hq => wtile_at v3 f3 _ 1408 128 rfl r l N q (by omega) hq)
    (fun r l N q hN hq => wtile_at v3 f3 _ 1408 256 rfl r l N q (by omega) hq)
    (fun r l N q hN hq => wtile_at v3 f3 _ 1408 384 rfl r l N q (by omega) hq)
    (fun I hI => word_at v1 f1 _ _ _ (off21_eq i h2 0) x100 I _ (by omega) rfl)
    (fun I hI => word_at v1 f1 _ _ _ (off21_eq i h2 1) x101 I _ (by omega) rfl)
    (fun I hI => word_at v1 f1 _ _ _ (off21_eq i h2 2) x102 I _ (by omega) rfl)
    (fun I hI => word_at v1 f1 _ _ _ (off21_eq i h2 3) x103 I _ (by omega) rfl)
    (fun I hI => word_at v1 f1 _ _ _ (off22_eq i h2 0) x110 I _ (by omega) rfl)
    (fun I hI => word_at v1 f1 _ _ _ (off22_eq i h2 1) x111 I _ (by omega) rfl)
    (fun I hI => word_at v1 f1 _ _ _ (off22_eq i h2 2) x112 I _ (by omega) rfl)
    (fun I hI => word_at v1 f1 _ _ _ (off22_eq i h2 3) x113 I _ (by omega) rfl)
    (fun r q => slot_at v7 f7 _ (oslot i) (off12 i) r q) (fun r q N hN => acc_at v8 f8 _ 1280 rfl r q N (by omega)) r q N hN).trans ?_
  unfold accOf
  subst hb
  by_cases h : (i 0).val = 1
  · rw [if_pos h, if_pos h, if_pos rfl]
  · rw [if_neg h, if_neg h, if_neg (by decide)]

theorem chunk6 (j12_0 : ∀ a, k0_off23 i 0#32 a + S1x1.size a ≤ S20x76.size a) (j12_1 : ∀ a, k0_off23 i 1#32 a + S1x1.size a ≤ S20x76.size a) (j12_2 : ∀ a, k0_off23 i 2#32 a + S1x1.size a ≤ S20x76.size a) (j12_3 : ∀ a, k0_off23 i 3#32 a + S1x1.size a ≤ S20x76.size a) (j13_0 : ∀ a, k0_off24 i 0#32 a + S1x1.size a ≤ S20x76.size a) (j13_1 : ∀ a, k0_off24 i 1#32 a + S1x1.size a ≤ S20x76.size a) (j13_2 : ∀ a, k0_off24 i 2#32 a + S1x1.size a ≤ S20x76.size a) (j13_3 : ∀ a, k0_off24 i 3#32 a + S1x1.size a ≤ S20x76.size a) (x120 x121 x122 x123 x130 x131 x132 x133 : S1x1.Idx)
    (j7 : ∀ a, k0_off12 i a + S1x1536x512.size a ≤ S2x1536x512.size a) (p : S1536x256.Idx → EReal)
    (hp : p = chunk b (v3.readAt (Elt Ideal) (Rect.unit (s := S2560x512) ![1536, 0] S128x128.size inb_S2560x512_S128x128_1536_0).toLoadRect f3) (v3.readAt (Elt Ideal) (Rect.unit (s := S2560x512) ![1536, 128] S128x128.size inb_S2560x512_S128x128_1536_128).toLoadRect f3) (v3.readAt (Elt Ideal) (Rect.unit (s := S2560x512) ![1536, 256] S128x128.size inb_S2560x512_S128x128_1536_256).toLoadRect f3) (v3.readAt (Elt Ideal) (Rect.unit (s := S2560x512) ![1536, 384] S128x128.size inb_S2560x512_S128x128_1536_384).toLoadRect f3) (v3.readAt (Elt Ideal) (Rect.unit (s := S2560x512) ![1664, 0] S128x128.size inb_S2560x512_S128x128_1664_0).toLoadRect f3) (v3.readAt (Elt Ideal) (Rect.unit (s := S2560x512) ![1664, 128] S128x128.size inb_S2560x512_S128x128_1664_128).toLoadRect f3) (v3.readAt (Elt Ideal) (Rect.unit (s := S2560x512) ![1664, 256] S128x128.size inb_S2560x512_S128x128_1664_256).toLoadRect f3) (v3.readAt (Elt Ideal) (Rect.unit (s := S2560x512) ![1664, 384] S128x128.size inb_S2560x512_S128x128_1664_384).toLoadRect f3)
      (v1.readAt (Elt Ideal) (Rect.unit (s := S20x76) (k0_off23 i 0#32) S1x1.size (j12_0)).toLoadRect f1 x120) (v1.readAt (Elt Ideal) (Rect.unit (s := S20x76) (k0_off23 i 1#32) S1x1.size (j12_1)).toLoadRect f1 x121) (v1.readAt (Elt Ideal) (Rect.unit (s := S20x76) (k0_off23 i 2#32) S1x1.size (j12_2)).toLoadRect f1 x122) (v1.readAt (Elt Ideal) (Rect.unit (s := S20x76) (k0_off23 i 3#32) S1x1.size (j12_3)).toLoadRect f1 x123) (v1.readAt (Elt Ideal) (Rect.unit (s := S20x76) (k0_off24 i 0#32) S1x1.size (j13_0)).toLoadRect f1 x130) (v1.readAt (Elt Ideal) (Rect.unit (s := S20x76) (k0_off24 i 1#32) S1x1.size (j13_1)).toLoadRect f1 x131) (v1.readAt (Elt Ideal) (Rect.unit (s := S20x76) (k0_off24 i 2#32) S1x1.size (j13_2)).toLoadRect f1 x132) (v1.readAt (Elt Ideal) (Rect.unit (s := S20x76) (k0_off24 i 3#32) S1x1.size (j13_3)).toLoadRect f1 x133)
      (v7.readAt (Elt Ideal) (Rect.unit (s := S2x1536x512) (k0_off12 i) S1x1536x512.size j7).toLoadRect f7)
      (v8.readAt (Elt Ideal) (Rect.unit (s := S1536x2560) ![0, 1536] S1536x256.size inb_S1536x2560_S1536x256_0_1536).toLoadRect f8))
    (r : Fin 1536) (q : Fin 256) (N : Fin 2560) (hN : N.val = 256 * 6 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 6 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 1536 0 rfl r l N q (by omega) hq)
    (fun r l N q hN hq => wtile_at v3 f3 _ 1536 128 rfl r l N q (by omega) hq)
    (fun r l N q hN hq => wtile_at v3 f3 _ 1536 256 rfl r l N q (by omega) hq)
    (fun r l N q hN hq => wtile_at v3 f3 _ 1536 384 rfl r l N q (by omega) hq)
    (fun r l N q hN hq => wtile_at v3 f3 _ 1664 0 rfl r l N q (by omega) hq)
    (fun r l N q hN hq => wtile_at v3 f3 _ 1664 128 rfl r l N q (by omega) hq)
    (fun r l N q hN hq => wtile_at v3 f3 _ 1664 256 rfl r l N q (by omega) hq)
    (fun r l N q hN hq => wtile_at v3 f3 _ 1664 384 rfl r l N q (by omega) hq)
    (fun I hI => word_at v1 f1 _ _ _ (off23_eq i h2 0) x120 I _ (by omega) rfl)
    (fun I hI => word_at v1 f1 _ _ _ (off23_eq i h2 1) x121 I _ (by omega) rfl)
    (fun I hI => word_at v1 f1 _ _ _ (off23_eq i h2 2) x122 I _ (by omega) rfl)
    (fun I hI => word_at v1 f1 _ _ _ (off23_eq i h2 3) x123 I _ (by omega) rfl)
    (fun I hI => word_at v1 f1 _ _ _ (off24_eq i h2 0) x130 I _ (by omega) rfl)
    (fun I hI => word_at v1 f1 _ _ _ (off24_eq i h2 1) x131 I _ (by omega) rfl)
    (fun I hI => word_at v1 f1 _ _ _ (off24_eq i h2 2) x132 I _ (by omega) rfl)
    (fun I hI => word_at v1 f1 _ _ _ (off24_eq i h2 3) x133 I _ (by omega) rfl)
    (fun r q => slot_at v7 f7 _ (oslot i) (off12 i) r q) (fun r q N hN => acc_at v8 f8 _ 1536 rfl r q N (by omega)) r q N hN).trans ?_
  unfold accOf
  subst hb
  by_cases h : (i 0).val = 1
  · rw [if_pos h, if_pos h, if_pos rfl]
  · rw [if_neg h, if_neg h, if_neg (by decide)]

theorem chunk7 (j14_0 : ∀ a, k0_off25 i 0#32 a + S1x1.size a ≤ S20x76.size a) (j14_1 : ∀ a, k0_off25 i 1#32 a + S1x1.size a ≤ S20x76.size a) (j14_2 : ∀ a, k0_off25 i 2#32 a + S1x1.size a ≤ S20x76.size a) (j14_3 : ∀ a, k0_off25 i 3#32 a + S1x1.size a ≤ S20x76.size a) (j15_0 : ∀ a, k0_off26 i 0#32 a + S1x1.size a ≤ S20x76.size a) (j15_1 : ∀ a, k0_off26 i 1#32 a + S1x1.size a ≤ S20x76.size a) (j15_2 : ∀ a, k0_off26 i 2#32 a + S1x1.size a ≤ S20x76.size a) (j15_3 : ∀ a, k0_off26 i 3#32 a + S1x1.size a ≤ S20x76.size a) (x140 x141 x142 x143 x150 x151 x152 x153 : S1x1.Idx)
    (j7 : ∀ a, k0_off12 i a + S1x1536x512.size a ≤ S2x1536x512.size a) (p : S1536x256.Idx → EReal)
    (hp : p = chunk b (v3.readAt (Elt Ideal) (Rect.unit (s := S2560x512) ![1792, 0] S128x128.size inb_S2560x512_S128x128_1792_0).toLoadRect f3) (v3.readAt (Elt Ideal) (Rect.unit (s := S2560x512) ![1792, 128] S128x128.size inb_S2560x512_S128x128_1792_128).toLoadRect f3) (v3.readAt (Elt Ideal) (Rect.unit (s := S2560x512) ![1792, 256] S128x128.size inb_S2560x512_S128x128_1792_256).toLoadRect f3) (v3.readAt (Elt Ideal) (Rect.unit (s := S2560x512) ![1792, 384] S128x128.size inb_S2560x512_S128x128_1792_384).toLoadRect f3) (v3.readAt (Elt Ideal) (Rect.unit (s := S2560x512) ![1920, 0] S128x128.size inb_S2560x512_S128x128_1920_0).toLoadRect f3) (v3.readAt (Elt Ideal) (Rect.unit (s := S2560x512) ![1920, 128] S128x128.size inb_S2560x512_S128x128_1920_128).toLoadRect f3) (v3.readAt (Elt Ideal) (Rect.unit (s := S2560x512) ![1920, 256] S128x128.size inb_S2560x512_S128x128_1920_256).toLoadRect f3) (v3.readAt (Elt Ideal) (Rect.unit (s := S2560x512) ![1920, 384] S128x128.size inb_S2560x512_S128x128_1920_384).toLoadRect f3)
      (v1.readAt (Elt Ideal) (Rect.unit (s := S20x76) (k0_off25 i 0#32) S1x1.size (j14_0)).toLoadRect f1 x140) (v1.readAt (Elt Ideal) (Rect.unit (s := S20x76) (k0_off25 i 1#32) S1x1.size (j14_1)).toLoadRect f1 x141) (v1.readAt (Elt Ideal) (Rect.unit (s := S20x76) (k0_off25 i 2#32) S1x1.size (j14_2)).toLoadRect f1 x142) (v1.readAt (Elt Ideal) (Rect.unit (s := S20x76) (k0_off25 i 3#32) S1x1.size (j14_3)).toLoadRect f1 x143) (v1.readAt (Elt Ideal) (Rect.unit (s := S20x76) (k0_off26 i 0#32) S1x1.size (j15_0)).toLoadRect f1 x150) (v1.readAt (Elt Ideal) (Rect.unit (s := S20x76) (k0_off26 i 1#32) S1x1.size (j15_1)).toLoadRect f1 x151) (v1.readAt (Elt Ideal) (Rect.unit (s := S20x76) (k0_off26 i 2#32) S1x1.size (j15_2)).toLoadRect f1 x152) (v1.readAt (Elt Ideal) (Rect.unit (s := S20x76) (k0_off26 i 3#32) S1x1.size (j15_3)).toLoadRect f1 x153)
      (v7.readAt (Elt Ideal) (Rect.unit (s := S2x1536x512) (k0_off12 i) S1x1536x512.size j7).toLoadRect f7)
      (v8.readAt (Elt Ideal) (Rect.unit (s := S1536x2560) ![0, 1792] S1536x256.size inb_S1536x2560_S1536x256_0_1792).toLoadRect f8))
    (r : Fin 1536) (q : Fin 256) (N : Fin 2560) (hN : N.val = 256 * 7 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 7 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 1792 0 rfl r l N q (by omega) hq)
    (fun r l N q hN hq => wtile_at v3 f3 _ 1792 128 rfl r l N q (by omega) hq)
    (fun r l N q hN hq => wtile_at v3 f3 _ 1792 256 rfl r l N q (by omega) hq)
    (fun r l N q hN hq => wtile_at v3 f3 _ 1792 384 rfl r l N q (by omega) hq)
    (fun r l N q hN hq => wtile_at v3 f3 _ 1920 0 rfl r l N q (by omega) hq)
    (fun r l N q hN hq => wtile_at v3 f3 _ 1920 128 rfl r l N q (by omega) hq)
    (fun r l N q hN hq => wtile_at v3 f3 _ 1920 256 rfl r l N q (by omega) hq)
    (fun r l N q hN hq => wtile_at v3 f3 _ 1920 384 rfl r l N q (by omega) hq)
    (fun I hI => word_at v1 f1 _ _ _ (off25_eq i h2 0) x140 I _ (by omega) rfl)
    (fun I hI => word_at v1 f1 _ _ _ (off25_eq i h2 1) x141 I _ (by omega) rfl)
    (fun I hI => word_at v1 f1 _ _ _ (off25_eq i h2 2) x142 I _ (by omega) rfl)
    (fun I hI => word_at v1 f1 _ _ _ (off25_eq i h2 3) x143 I _ (by omega) rfl)
    (fun I hI => word_at v1 f1 _ _ _ (off26_eq i h2 0) x150 I _ (by omega) rfl)
    (fun I hI => word_at v1 f1 _ _ _ (off26_eq i h2 1) x151 I _ (by omega) rfl)
    (fun I hI => word_at v1 f1 _ _ _ (off26_eq i h2 2) x152 I _ (by omega) rfl)
    (fun I hI => word_at v1 f1 _ _ _ (off26_eq i h2 3) x153 I _ (by omega) rfl)
    (fun r q => slot_at v7 f7 _ (oslot i) (off12 i) r q) (fun r q N hN => acc_at v8 f8 _ 1792 rfl r q N (by omega)) r q N hN).trans ?_
  unfold accOf
  subst hb
  by_cases h : (i 0).val = 1
  · rw [if_pos h, if_pos h, if_pos rfl]
  · rw [if_neg h, if_neg h, if_neg (by decide)]

theorem chunk8 (j16_0 : ∀ a, k0_off27 i 0#32 a + S1x1.size a ≤ S20x76.size a) (j16_1 : ∀ a, k0_off27 i 1#32 a + S1x1.size a ≤ S20x76.size a) (j16_2 : ∀ a, k0_off27 i 2#32 a + S1x1.size a ≤ S20x76.size a) (j16_3 : ∀ a, k0_off27 i 3#32 a + S1x1.size a ≤ S20x76.size a) (j17_0 : ∀ a, k0_off28 i 0#32 a + S1x1.size a ≤ S20x76.size a) (j17_1 : ∀ a, k0_off28 i 1#32 a + S1x1.size a ≤ S20x76.size a) (j17_2 : ∀ a, k0_off28 i 2#32 a + S1x1.size a ≤ S20x76.size a) (j17_3 : ∀ a, k0_off28 i 3#32 a + S1x1.size a ≤ S20x76.size a) (x160 x161 x162 x163 x170 x171 x172 x173 : S1x1.Idx)
    (j7 : ∀ a, k0_off12 i a + S1x1536x512.size a ≤ S2x1536x512.size a) (p : S1536x256.Idx → EReal)
    (hp : p = chunk b (v3.readAt (Elt Ideal) (Rect.unit (s := S2560x512) ![2048, 0] S128x128.size inb_S2560x512_S128x128_2048_0).toLoadRect f3) (v3.readAt (Elt Ideal) (Rect.unit (s := S2560x512) ![2048, 128] S128x128.size inb_S2560x512_S128x128_2048_128).toLoadRect f3) (v3.readAt (Elt Ideal) (Rect.unit (s := S2560x512) ![2048, 256] S128x128.size inb_S2560x512_S128x128_2048_256).toLoadRect f3) (v3.readAt (Elt Ideal) (Rect.unit (s := S2560x512) ![2048, 384] S128x128.size inb_S2560x512_S128x128_2048_384).toLoadRect f3) (v3.readAt (Elt Ideal) (Rect.unit (s := S2560x512) ![2176, 0] S128x128.size inb_S2560x512_S128x128_2176_0).toLoadRect f3) (v3.readAt (Elt Ideal) (Rect.unit (s := S2560x512) ![2176, 128] S128x128.size inb_S2560x512_S128x128_2176_128).toLoadRect f3) (v3.readAt (Elt Ideal) (Rect.unit (s := S2560x512) ![2176, 256] S128x128.size inb_S2560x512_S128x128_2176_256).toLoadRect f3) (v3.readAt (Elt Ideal) (Rect.unit (s := S2560x512) ![2176, 384] S128x128.size inb_S2560x512_S128x128_2176_384).toLoadRect f3)
      (v1.readAt (Elt Ideal) (Rect.unit (s := S20x76) (k0_off27 i 0#32) S1x1.size (j16_0)).toLoadRect f1 x160) (v1.readAt (Elt Ideal) (Rect.unit (s := S20x76) (k0_off27 i 1#32) S1x1.size (j16_1)).toLoadRect f1 x161) (v1.readAt (Elt Ideal) (Rect.unit (s := S20x76) (k0_off27 i 2#32) S1x1.size (j16_2)).toLoadRect f1 x162) (v1.readAt (Elt Ideal) (Rect.unit (s := S20x76) (k0_off27 i 3#32) S1x1.size (j16_3)).toLoadRect f1 x163) (v1.readAt (Elt Ideal) (Rect.unit (s := S20x76) (k0_off28 i 0#32) S1x1.size (j17_0)).toLoadRect f1 x170) (v1.readAt (Elt Ideal) (Rect.unit (s := S20x76) (k0_off28 i 1#32) S1x1.size (j17_1)).toLoadRect f1 x171) (v1.readAt (Elt Ideal) (Rect.unit (s := S20x76) (k0_off28 i 2#32) S1x1.size (j17_2)).toLoadRect f1 x172) (v1.readAt (Elt Ideal) (Rect.unit (s := S20x76) (k0_off28 i 3#32) S1x1.size (j17_3)).toLoadRect f1 x173)
      (v7.readAt (Elt Ideal) (Rect.unit (s := S2x1536x512) (k0_off12 i) S1x1536x512.size j7).toLoadRect f7)
      (v8.readAt (Elt Ideal) (Rect.unit (s := S1536x2560) ![0, 2048] S1536x256.size inb_S1536x2560_S1536x256_0_2048).toLoadRect f8))
    (r : Fin 1536) (q : Fin 256) (N : Fin 2560) (hN : N.val = 256 * 8 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 8 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 2048 0 rfl r l N q (by omega) hq)
    (fun r l N q hN hq => wtile_at v3 f3 _ 2048 128 rfl r l N q (by omega) hq)
    (fun r l N q hN hq => wtile_at v3 f3 _ 2048 256 rfl r l N q (by omega) hq)
    (fun r l N q hN hq => wtile_at v3 f3 _ 2048 384 rfl r l N q (by omega) hq)
    (fun r l N q hN hq => wtile_at v3 f3 _ 2176 0 rfl r l N q (by omega) hq)
    (fun r l N q hN hq => wtile_at v3 f3 _ 2176 128 rfl r l N q (by omega) hq)
    (fun r l N q hN hq => wtile_at v3 f3 _ 2176 256 rfl r l N q (by omega) hq)
    (fun r l N q hN hq => wtile_at v3 f3 _ 2176 384 rfl r l N q (by omega) hq)
    (fun I hI => word_at v1 f1 _ _ _ (off27_eq i h2 0) x160 I _ (by omega) rfl)
    (fun I hI => word_at v1 f1 _ _ _ (off27_eq i h2 1) x161 I _ (by omega) rfl)
    (fun I hI => word_at v1 f1 _ _ _ (off27_eq i h2 2) x162 I _ (by omega) rfl)
    (fun I hI => word_at v1 f1 _ _ _ (off27_eq i h2 3) x163 I _ (by omega) rfl)
    (fun I hI => word_at v1 f1 _ _ _ (off28_eq i h2 0) x170 I _ (by omega) rfl)
    (fun I hI => word_at v1 f1 _ _ _ (off28_eq i h2 1) x171 I _ (by omega) rfl)
    (fun I hI => word_at v1 f1 _ _ _ (off28_eq i h2 2) x172 I _ (by omega) rfl)
    (fun I hI => word_at v1 f1 _ _ _ (off28_eq i h2 3) x173 I _ (by omega) rfl)
    (fun r q => slot_at v7 f7 _ (oslot i) (off12 i) r q) (fun r q N hN => acc_at v8 f8 _ 2048 rfl r q N (by omega)) r q N hN).trans ?_
  unfold accOf
  subst hb
  by_cases h : (i 0).val = 1
  · rw [if_pos h, if_pos h, if_pos rfl]
  · rw [if_neg h, if_neg h, if_neg (by decide)]

theorem chunk9 (j18_0 : ∀ a, k0_off29 i 0#32 a + S1x1.size a ≤ S20x76.size a) (j18_1 : ∀ a, k0_off29 i 1#32 a + S1x1.size a ≤ S20x76.size a) (j18_2 : ∀ a, k0_off29 i 2#32 a + S1x1.size a ≤ S20x76.size a) (j18_3 : ∀ a, k0_off29 i 3#32 a + S1x1.size a ≤ S20x76.size a) (j19_0 : ∀ a, k0_off30 i 0#32 a + S1x1.size a ≤ S20x76.size a) (j19_1 : ∀ a, k0_off30 i 1#32 a + S1x1.size a ≤ S20x76.size a) (j19_2 : ∀ a, k0_off30 i 2#32 a + S1x1.size a ≤ S20x76.size a) (j19_3 : ∀ a, k0_off30 i 3#32 a + S1x1.size a ≤ S20x76.size a) (x180 x181 x182 x183 x190 x191 x192 x193 : S1x1.Idx)
    (j7 : ∀ a, k0_off12 i a + S1x1536x512.size a ≤ S2x1536x512.size a) (p : S1536x256.Idx → EReal)
    (hp : p = chunk b (v3.readAt (Elt Ideal) (Rect.unit (s := S2560x512) ![2304, 0] S128x128.size inb_S2560x512_S128x128_2304_0).toLoadRect f3) (v3.readAt (Elt Ideal) (Rect.unit (s := S2560x512) ![2304, 128] S128x128.size inb_S2560x512_S128x128_2304_128).toLoadRect f3) (v3.readAt (Elt Ideal) (Rect.unit (s := S2560x512) ![2304, 256] S128x128.size inb_S2560x512_S128x128_2304_256).toLoadRect f3) (v3.readAt (Elt Ideal) (Rect.unit (s := S2560x512) ![2304, 384] S128x128.size inb_S2560x512_S128x128_2304_384).toLoadRect f3) (v3.readAt (Elt Ideal) (Rect.unit (s := S2560x512) ![2432, 0] S128x128.size inb_S2560x512_S128x128_2432_0).toLoadRect f3) (v3.readAt (Elt Ideal) (Rect.unit (s := S2560x512) ![2432, 128] S128x128.size inb_S2560x512_S128x128_2432_128).toLoadRect f3) (v3.readAt (Elt Ideal) (Rect.unit (s := S2560x512) ![2432, 256] S128x128.size inb_S2560x512_S128x128_2432_256).toLoadRect f3) (v3.readAt (Elt Ideal) (Rect.unit (s := S2560x512) ![2432, 384] S128x128.size inb_S2560x512_S128x128_2432_384).toLoadRect f3)
      (v1.readAt (Elt Ideal) (Rect.unit (s := S20x76) (k0_off29 i 0#32) S1x1.size (j18_0)).toLoadRect f1 x180) (v1.readAt (Elt Ideal) (Rect.unit (s := S20x76) (k0_off29 i 1#32) S1x1.size (j18_1)).toLoadRect f1 x181) (v1.readAt (Elt Ideal) (Rect.unit (s := S20x76) (k0_off29 i 2#32) S1x1.size (j18_2)).toLoadRect f1 x182) (v1.readAt (Elt Ideal) (Rect.unit (s := S20x76) (k0_off29 i 3#32) S1x1.size (j18_3)).toLoadRect f1 x183) (v1.readAt (Elt Ideal) (Rect.unit (s := S20x76) (k0_off30 i 0#32) S1x1.size (j19_0)).toLoadRect f1 x190) (v1.readAt (Elt Ideal) (Rect.unit (s := S20x76) (k0_off30 i 1#32) S1x1.size (j19_1)).toLoadRect f1 x191) (v1.readAt (Elt Ideal) (Rect.unit (s := S20x76) (k0_off30 i 2#32) S1x1.size (j19_2)).toLoadRect f1 x192) (v1.readAt (Elt Ideal) (Rect.unit (s := S20x76) (k0_off30 i 3#32) S1x1.size (j19_3)).toLoadRect f1 x193)
      (v7.readAt (Elt Ideal) (Rect.unit (s := S2x1536x512) (k0_off12 i) S1x1536x512.size j7).toLoadRect f7)
      (v8.readAt (Elt Ideal) (Rect.unit (s := S1536x2560) ![0, 2304] S1536x256.size inb_S1536x2560_S1536x256_0_2304).toLoadRect f8))
    (r : Fin 1536) (q : Fin 256) (N : Fin 2560) (hN : N.val = 256 * 9 + q.val) :
    p (ix2 r q) = accOf i (v1.read (Elt Ideal) f1) (v3.read (Elt Ideal) f3) (v7.read (Elt Ideal) f7) (v8.read (Elt Ideal) f8) r N := by
  subst hp
  have ht : (i 0).val < 20 := (i 0).isLt
  have h1 := mul_pos' i h2
  refine (chunk_apply 9 (by omega) b _ _ _ _ _ _ _ _  _ _ _ _ _ _ _ _  _ _ (fun N k => v3.read (Elt Ideal) f3 (ix2 N k)) (fun I j => v1.read (Elt Ideal) f1 (ix2 I ⟨4 * ((i 0).val - 1) + j.val, by omega⟩))
    (fun r k => v7.read (Elt Ideal) f7 (ix3 (oslot i) r k)) (fun r N => v8.read (Elt Ideal) f8 (ix2 r N))
    (fun r l N q hN hq => wtile_at v3 f3 _ 2304 0 rfl r l N q (by omega) hq)
    (fun r l N q hN hq => wtile_at v3 f3 _ 2304 128 rfl r l N q (by omega) hq)
    (fun r l N q hN hq => wtile_at v3 f3 _ 2304 256 rfl r l N q (by omega) hq)
    (fun r l N q hN hq => wtile_at v3 f3 _ 2304 384 rfl r l N q (by omega) hq)
    (fun r l N q hN hq => wtile_at v3 f3 _ 2432 0 rfl r l N q (by omega) hq)
    (fun r l N q hN hq => wtile_at v3 f3 _ 2432 128 rfl r l N q (by omega) hq)
    (fun r l N q hN hq => wtile_at v3 f3 _ 2432 256 rfl r l N q (by omega) hq)
    (fun r l N q hN hq => wtile_at v3 f3 _ 2432 384 rfl r l N q (by omega) hq)
    (fun I hI => word_at v1 f1 _ _ _ (off29_eq i h2 0) x180 I _ (by omega) rfl)
    (fun I hI => word_at v1 f1 _ _ _ (off29_eq i h2 1) x181 I _ (by omega) rfl)
    (fun I hI => word_at v1 f1 _ _ _ (off29_eq i h2 2) x182 I _ (by omega) rfl)
    (fun I hI => word_at v1 f1 _ _ _ (off29_eq i h2 3) x183 I _ (by omega) rfl)
    (fun I hI => word_at v1 f1 _ _ _ (off30_eq i h2 0) x190 I _ (by omega) rfl)
    (fun I hI => word_at v1 f1 _ _ _ (off30_eq i h2 1) x191 I _ (by omega) rfl)
    (fun I hI => word_at v1 f1 _ _ _ (off30_eq i h2 2) x192 I _ (by omega) rfl)
    (fun I hI => word_at v1 f1 _ _ _ (off30_eq i h2 3) x193 I _ (by omega) rfl)
    (fun r q => slot_at v7 f7 _ (oslot i) (off12 i) r q) (fun r q N hN => acc_at v8 f8 _ 2304 rfl r q N (by omega)) r q N hN).trans ?_
  unfold accOf
  subst hb
  by_cases h : (i 0).val = 1
  · rw [if_pos h, if_pos h, if_pos rfl]
  · rw [if_neg h, if_neg h, if_neg (by decide)]

end Chunks

theorem pay6_apply (a : Vec Ideal S1536x2560 .f32) : k0_pay6 (F := Ideal) a = a := rfl

end Cert.KernelIdeal.Hand

end
-- ==== Proof.KernelIdealStep.lean ====
/-
  One grid point of the kernel over the extended reals: what it leaves in the blocks it writes and in its two scratch buffers, from what it finds.
-/
module

public import proofs.«01_k».proof.Proof.KernelIdealLoop
public import proofs.«01_k».proof.Proof.Multiply
public import proofs.«01_k».proof.Proof.KernelIdealRun
public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem cond_lt : ∀ i : grid0.Coords, k0_cond1 i = 1#1 → (i 0).val < 19 := by decide +kernel
theorem cond_first : ∀ i : grid0.Coords, ¬ k0_cond2 i = 1#1 → (i 0).val = 0 := by decide +kernel
theorem cond_last : ∀ i : grid0.Coords, ¬ k0_cond1 i = 1#1 → (i 0).val = 19 := by decide +kernel
theorem trips_eq : Scf.trips k0_t1_loop.lb k0_t1_loop.ub k0_t1_loop.st = 12 := by decide +kernel

/-- What a point leaves: the product block at the last one, -/
def P4 (i : grid0.Coords) (S : S20x76.Idx → EReal) (W : S2560x512.Idx → EReal) (R7 : S2x1536x512.Idx → EReal) (R8 : S1536x2560.Idx → EReal) (G : S1536x2560.Idx → EReal) : Prop :=
  (i 0).val = 19 → ∀ r N, G (ix2 r N) = accOf i S W R7 R8 r N
/-- the codes and the scales' lanes of its block, nothing at the last one, -/
def P5 (i : grid0.Coords) (X R5 G : S1536x512.Idx → EReal) : Prop :=
  ((i 0).val < 19 → ∀ r q, G (ix2 r q) = bcode X r q) ∧ ((i 0).val = 19 → G = R5)
def P6 (i : grid0.Coords) (X : S1536x512.Idx → EReal) (R6 G : S1536x128.Idx → EReal) : Prop :=
  ((i 0).val < 19 → ∀ r l, G (ix2 r l) = lanes i X R6 r l) ∧ ((i 0).val = 19 → G = R6)
/-- the dequantised block in the point's slot, -/
def P7 (i : grid0.Coords) (X : S1536x512.Idx → EReal) (R7 G : S2x1536x512.Idx → EReal) : Prop :=
  (i 0).val < 19 → ∀ u r q, G (ix3 u r q) = if u = slot i then bdeq X r q else R7 (ix3 u r q)
/-- and the accumulator, from the second point on. -/
def P8 (i : grid0.Coords) (S : S20x76.Idx → EReal) (W : S2560x512.Idx → EReal) (R7 : S2x1536x512.Idx → EReal) (R8 G : S1536x2560.Idx → EReal) : Prop :=
  1 ≤ (i 0).val → ∀ r N, G (ix2 r N) = accOf i S W R7 R8 r N

theorem codes_done {X R G : S1536x512.Idx → EReal} (h : CodesAt X R 12 G) (r : Fin 1536) (q : Fin 512) : G (ix2 r q) = bcode X r q := by
  rw [h, if_pos (by omega)]
theorem scales_done {i : grid0.Coords} {X : S1536x512.Idx → EReal} {R G : S1536x128.Idx → EReal} (h : ScalesAt i X R 12 G) (r : Fin 1536) (l : Fin 128) :
    G (ix2 r l) = lanes i X R r l := by
  rw [h, if_pos (by omega)]
theorem deq_done {s : Fin 2} {X : S1536x512.Idx → EReal} {R G : S2x1536x512.Idx → EReal} (h : DeqAt s X R 12 G) (u : Fin 2) (r : Fin 1536) (q : Fin 512) :
    G (ix3 u r q) = if u = s then bdeq X r q else R (ix3 u r q) := by
  rw [h]
  by_cases e : u = s
  · rw [if_pos e, if_pos ⟨e, by omega⟩]
  · rw [if_neg e, if_neg (fun h => e h.1)]

theorem oslot_ne (i : grid0.Coords) : oslot i ≠ slot i := by
  intro h
  have : ((i 0).val + 1) % 2 = (i 0).val % 2 := congrArg Fin.val h
  omega

/-- The slot that is read is not the one the loop wrote. -/
theorem accOf_other (i : grid0.Coords) (S : S20x76.Idx → EReal) (W : S2560x512.Idx → EReal) {X : S1536x512.Idx → EReal} {R7 G7 : S2x1536x512.Idx → EReal}
    (h : DeqAt (slot i) X R7 12 G7) (R8 : S1536x2560.Idx → EReal) (r : Fin 1536) (N : Fin 2560) : accOf i S W G7 R8 r N = accOf i S W R7 R8 r N := by
  unfold accOf
  congr 1
  refine Finset.sum_congr rfl fun k _ => ?_
  rw [deq_done h, if_neg (oslot_ne i)]

set_option maxHeartbeats 16000000 in
/-- The first point. -/
theorem step_first (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole) (h1 : k0_cond1 i = 1#1) (h2 : ¬ k0_cond2 i = 1#1) (h3 : ¬ k0_cond3 i = 1#1)
    (S : S20x76.Idx → EReal) (X : S1536x512.Idx → EReal) (W : S2560x512.Idx → EReal) (R4 : S1536x2560.Idx → EReal) (R5 : S1536x512.Idx → EReal)
    (R6 : S1536x128.Idx → EReal) (R7 : S2x1536x512.Idx → EReal) (R8 : S1536x2560.Idx → EReal) (K : PUnit → sProp 𝕄) :
    iprop(owns (c : Thread nD τ) arg1 fullShare S ∗ owns (c : Thread nD τ) arg2 fullShare X ∗ owns (c : Thread nD τ) arg3 fullShare W ∗ owns (c : Thread nD τ) arg4 fullShare R4 ∗ owns (c : Thread nD τ) arg5 fullShare R5 ∗ owns (c : Thread nD τ) arg6 fullShare R6 ∗ owns (c : Thread nD τ) arg7 fullShare R7 ∗ owns (c : Thread nD τ) arg8 fullShare R8
      ∗ (iprop(owns (c : Thread nD τ) arg1 fullShare S ∗ owns (c : Thread nD τ) arg2 fullShare X ∗ owns (c : Thread nD τ) arg3 fullShare W
        ∗ (∃ G, owns (c : Thread nD τ) arg4 fullShare G ∗ ⌜P4 i S W R7 R8 G⌝) ∗ (∃ G, owns (c : Thread nD τ) arg5 fullShare G ∗ ⌜P5 i X R5 G⌝) ∗ (∃ G, owns (c : Thread nD τ) arg6 fullShare G ∗ ⌜P6 i X R6 G⌝)
        ∗ (∃ G, owns (c : Thread nD τ) arg7 fullShare G ∗ ⌜P7 i X R7 G⌝) ∗ (∃ G, owns (c : Thread nD τ) arg8 fullShare G ∗ ⌜P8 i S W R7 R8 G⌝)) -∗ K ⟨⟩))
    ⊢ wp frame (wpE (defs₀ (F := Ideal)) Variants.none (c : Thread nD τ) none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  let L := semLoop Variants.none c none Set.univ i arg1 harg1 arg2 harg2 arg3 harg3 arg4 harg4 arg5 harg5 arg6 harg6 arg7 harg7 arg8 harg8 h1 f2 (arg5.view.read (Elt Ideal) f5) (arg6.view.read (Elt Ideal) f6) (arg7.view.read (Elt Ideal) f7)
  have z5 := codes_zero (arg2.view.read (Elt Ideal) f2) (arg5.view.read (Elt Ideal) f5)
  have z6 := scales_zero i (arg2.view.read (Elt Ideal) f2) (arg6.view.read (Elt Ideal) f6)
  have z7 := deq_zero (slot i) (arg2.view.read (Elt Ideal) f2) (arg7.view.read (Elt Ideal) f7)
  sl_exec (disch := first | sl_exact h1 | sl_exact h2 | sl_exact h3)
  sl_step
  have L5 := hL2
  have L6 := hL4
  have L7 := hL6
  rw [trips_eq] at L5 L6 L7
  subst e1 e2 e3 e4 e5 e6 e7 e8
  have hlt := cond_lt i h1
  have h0 := cond_first i h2
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitl [H4]
    · iexists _; isplitr; swap; · iexact H4
      ipureintro; rfl
    ipureintro
    exact fun h => absurd h (by omega)
  isplitl [H5]
  · iexists _; isplitl [H5]
    · iexists _; isplitr; swap; · iexact H5
      ipureintro; rfl
    ipureintro
    exact ⟨fun _ => codes_done L5, fun h => absurd h (by omega)⟩
  isplitl [H6]
  · iexists _; isplitl [H6]
    · iexists _; isplitr; swap; · iexact H6
      ipureintro; rfl
    ipureintro
    exact ⟨fun _ => scales_done L6, fun h => absurd h (by omega)⟩
  isplitl [H7]
  · iexists _; isplitl [H7]
    · iexists _; isplitr; swap; · iexact H7
      ipureintro; rfl
    ipureintro
    exact fun _ => deq_done L7
  iexists _; isplitl [H8]
  · iexists _; isplitr; swap; · iexact H8
    ipureintro; rfl
  ipureintro
  exact fun h => absurd h (by omega)

set_option maxHeartbeats 16000000 in
/-- A middle point. -/
theorem step_mid (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole) (h1 : k0_cond1 i = 1#1) (h2 : k0_cond2 i = 1#1) (h3 : ¬ k0_cond3 i = 1#1)
    (S : S20x76.Idx → EReal) (X : S1536x512.Idx → EReal) (W : S2560x512.Idx → EReal) (R4 : S1536x2560.Idx → EReal) (R5 : S1536x512.Idx → EReal)
    (R6 : S1536x128.Idx → EReal) (R7 : S2x1536x512.Idx → EReal) (R8 : S1536x2560.Idx → EReal) (K : PUnit → sProp 𝕄) :
    iprop(owns (c : Thread nD τ) arg1 fullShare S ∗ owns (c : Thread nD τ) arg2 fullShare X ∗ owns (c : Thread nD τ) arg3 fullShare W ∗ owns (c : Thread nD τ) arg4 fullShare R4 ∗ owns (c : Thread nD τ) arg5 fullShare R5 ∗ owns (c : Thread nD τ) arg6 fullShare R6 ∗ owns (c : Thread nD τ) arg7 fullShare R7 ∗ owns (c : Thread nD τ) arg8 fullShare R8
      ∗ (iprop(owns (c : Thread nD τ) arg1 fullShare S ∗ owns (c : Thread nD τ) arg2 fullShare X ∗ owns (c : Thread nD τ) arg3 fullShare W
        ∗ (∃ G, owns (c : Thread nD τ) arg4 fullShare G ∗ ⌜P4 i S W R7 R8 G⌝) ∗ (∃ G, owns (c : Thread nD τ) arg5 fullShare G ∗ ⌜P5 i X R5 G⌝) ∗ (∃ G, owns (c : Thread nD τ) arg6 fullShare G ∗ ⌜P6 i X R6 G⌝)
        ∗ (∃ G, owns (c : Thread nD τ) arg7 fullShare G ∗ ⌜P7 i X R7 G⌝) ∗ (∃ G, owns (c : Thread nD τ) arg8 fullShare G ∗ ⌜P8 i S W R7 R8 G⌝)) -∗ K ⟨⟩))
    ⊢ wp frame (wpE (defs₀ (F := Ideal)) Variants.none (c : Thread nD τ) none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  let L := semLoop Variants.none c none Set.univ i arg1 harg1 arg2 harg2 arg3 harg3 arg4 harg4 arg5 harg5 arg6 harg6 arg7 harg7 arg8 harg8 h1 f2 (arg5.view.read (Elt Ideal) f5) (arg6.view.read (Elt Ideal) f6) (arg7.view.read (Elt Ideal) f7)
  have z5 := codes_zero (arg2.view.read (Elt Ideal) f2) (arg5.view.read (Elt Ideal) f5)
  have z6 := scales_zero i (arg2.view.read (Elt Ideal) f2) (arg6.view.read (Elt Ideal) f6)
  have z7 := deq_zero (slot i) (arg2.view.read (Elt Ideal) f2) (arg7.view.read (Elt Ideal) f7)
  sl_exec (disch := first | sl_exact h1 | sl_exact h2 | sl_exact h3)
  sl_step
  have L5 := hL2
  have L6 := hL4
  have L7 := hL6
  rw [trips_eq] at L5 L6 L7
  subst e1 e2 e3 e4 e5 e6 e7 e8
  have hlt := cond_lt i h1
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitl [H4]
    · iexists _; isplitr; swap; · iexact H4
      ipureintro; rfl
    ipureintro
    exact fun h => absurd h (by omega)
  isplitl [H5]
  · iexists _; isplitl [H5]
    · iexists _; isplitr; swap; · iexact H5
      ipureintro; rfl
    ipureintro
    exact ⟨fun _ => codes_done L5, fun h => absurd h (by omega)⟩
  isplitl [H6]
  · iexists _; isplitl [H6]
    · iexists _; isplitr; swap; · iexact H6
      ipureintro; rfl
    ipureintro
    exact ⟨fun _ => scales_done L6, fun h => absurd h (by omega)⟩
  isplitl [H7]
  · iexists _; isplitl [H7]
    · iexists _; isplitr; swap; · iexact H7
      ipureintro; rfl
    ipureintro
    exact fun _ => deq_done L7
  iexists _; isplitl [H8]
  · iexists _; isplitr; swap; · iexact H8
    ipureintro; rfl
  ipureintro
  sl_unfold_run_names
  intro _ r N
  refine Eq.trans ?_ (accOf_other i _ _ L7 _ r N)
  exact acc_written arg8.view f8 _ _ _ _ _ _ _ _ _ _ _ _ _ _ _ _ _ _ _ _ _
    (chunk0 i h2 _ (first_bit i) arg1.view f1 arg3.view f3 arg7.view g7L2 arg8.view f8 _ _ _ _ _ _ _ _ _ _ _ _ _ _ _ _ _ _ rfl)
    (chunk1 i h2 _ (first_bit i) arg1.view f1 arg3.view f3 arg7.view g7L2 arg8.view f8 _ _ _ _ _ _ _ _ _ _ _ _ _ _ _ _ _ _ rfl)
    (chunk2 i h2 _ (first_bit i) arg1.view f1 arg3.view f3 arg7.view g7L2 arg8.view f8 _ _ _ _ _ _ _ _ _ _ _ _ _ _ _ _ _ _ rfl)
    (chunk3 i h2 _ (first_bit i) arg1.view f1 arg3.view f3 arg7.view g7L2 arg8.view f8 _ _ _ _ _ _ _ _ _ _ _ _ _ _ _ _ _ _ rfl)
    (chunk4 i h2 _ (first_bit i) arg1.view f1 arg3.view f3 arg7.view g7L2 arg8.view f8 _ _ _ _ _ _ _ _ _ _ _ _ _ _ _ _ _ _ rfl)
    (chunk5 i h2 _ (first_bit i) arg1.view f1 arg3.view f3 arg7.view g7L2 arg8.view f8 _ _ _ _ _ _ _ _ _ _ _ _ _ _ _ _ _ _ rfl)
    (chunk6 i h2 _ (first_bit i) arg1.view f1 arg3.view f3 arg7.view g7L2 arg8.view f8 _ _ _ _ _ _ _ _ _ _ _ _ _ _ _ _ _ _ rfl)
    (chunk7 i h2 _ (first_bit i) arg1.view f1 arg3.view f3 arg7.view g7L2 arg8.view f8 _ _ _ _ _ _ _ _ _ _ _ _ _ _ _ _ _ _ rfl)
    (chunk8 i h2 _ (first_bit i) arg1.view f1 arg3.view f3 arg7.view g7L2 arg8.view f8 _ _ _ _ _ _ _ _ _ _ _ _ _ _ _ _ _ _ rfl)
    (chunk9 i h2 _ (first_bit i) arg1.view f1 arg3.view f3 arg7.view g7L2 arg8.view f8 _ _ _ _ _ _ _ _ _ _ _ _ _ _ _ _ _ _ rfl) r N

set_option maxHeartbeats 16000000 in
/-- The last point. -/
theorem step_last (c : Dev nD) (i : grid0.Coords) (arg1 : Memref sig .tc .smem S20x76 .f32) (harg1 : arg1.IsWhole) (arg2 : Memref sig .tc .vmem S1536x512 .bf16) (harg2 : arg2.IsWhole) (arg3 : Memref sig .tc .vmem S2560x512 .fp8e4m3) (harg3 : arg3.IsWhole) (arg4 : Memref sig .tc .vmem S1536x2560 .bf16) (harg4 : arg4.IsWhole) (arg5 : Memref sig .tc .vmem S1536x512 .fp8e4m3) (harg5 : arg5.IsWhole) (arg6 : Memref sig .tc .vmem S1536x128 .f32) (harg6 : arg6.IsWhole) (arg7 : Memref sig .tc .vmem S2x1536x512 .bf16) (harg7 : arg7.IsWhole) (arg8 : Memref sig .tc .vmem S1536x2560 .f32) (harg8 : arg8.IsWhole) (h1 : ¬ k0_cond1 i = 1#1) (h2 : k0_cond2 i = 1#1) (h3 : k0_cond3 i = 1#1)
    (S : S20x76.Idx → EReal) (X : S1536x512.Idx → EReal) (W : S2560x512.Idx → EReal) (R4 : S1536x2560.Idx → EReal) (R5 : S1536x512.Idx → EReal)
    (R6 : S1536x128.Idx → EReal) (R7 : S2x1536x512.Idx → EReal) (R8 : S1536x2560.Idx → EReal) (K : PUnit → sProp 𝕄) :
    iprop(owns (c : Thread nD τ) arg1 fullShare S ∗ owns (c : Thread nD τ) arg2 fullShare X ∗ owns (c : Thread nD τ) arg3 fullShare W ∗ owns (c : Thread nD τ) arg4 fullShare R4 ∗ owns (c : Thread nD τ) arg5 fullShare R5 ∗ owns (c : Thread nD τ) arg6 fullShare R6 ∗ owns (c : Thread nD τ) arg7 fullShare R7 ∗ owns (c : Thread nD τ) arg8 fullShare R8
      ∗ (iprop(owns (c : Thread nD τ) arg1 fullShare S ∗ owns (c : Thread nD τ) arg2 fullShare X ∗ owns (c : Thread nD τ) arg3 fullShare W
        ∗ (∃ G, owns (c : Thread nD τ) arg4 fullShare G ∗ ⌜P4 i S W R7 R8 G⌝) ∗ (∃ G, owns (c : Thread nD τ) arg5 fullShare G ∗ ⌜P5 i X R5 G⌝) ∗ (∃ G, owns (c : Thread nD τ) arg6 fullShare G ∗ ⌜P6 i X R6 G⌝)
        ∗ (∃ G, owns (c : Thread nD τ) arg7 fullShare G ∗ ⌜P7 i X R7 G⌝) ∗ (∃ G, owns (c : Thread nD τ) arg8 fullShare G ∗ ⌜P8 i S W R7 R8 G⌝)) -∗ K ⟨⟩))
    ⊢ wp frame (wpE (defs₀ (F := Ideal)) Variants.none (c : Thread nD τ) none) Set.univ (cc0_fp8_dgrad i arg1 harg1 arg2 harg2 arg3 harg3 arg4 harg4 arg5 harg5 arg6 harg6 arg7 harg7 arg8 harg8) K := by
  simp only [cc0_fp8_dgrad_eq_skeleton]; unfold cc0_fp8_dgrad_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec (disch := first | sl_exact h1 | sl_exact h2 | sl_exact h3)
  sl_step
  subst e1 e2 e3 e4 e5 e6 e7 e8
  have hl := cond_last i h1
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitl [H4]
    · iexists _; isplitr; swap; · iexact H4
      ipureintro; rfl
    ipureintro
    intro _ r N
    refine (out_written arg4.view f4 _ _ r N).trans ?_
    rw [pay6_apply]
    unfold step_last.sl.v9_1
    refine (cov_whole arg8.view _ _ r N).trans ?_
    sl_unfold_run_names
    exact acc_written arg8.view arg8.view.junk _ _ _ _ _ _ _ _ _ _ _ _ _ _ _ _ _ _ _ _ _
      (chunk0 i h2 _ (first_bit i) arg1.view f1 arg3.view f3 arg7.view f7 arg8.view f8 _ _ _ _ _ _ _ _ _ _ _ _ _ _ _ _ _ _ rfl)
      (chunk1 i h2 _ (first_bit i) arg1.view f1 arg3.view f3 arg7.view f7 arg8.view f8 _ _ _ _ _ _ _ _ _ _ _ _ _ _ _ _ _ _ rfl)
      (chunk2 i h2 _ (first_bit i) arg1.view f1 arg3.view f3 arg7.view f7 arg8.view f8 _ _ _ _ _ _ _ _ _ _ _ _ _ _ _ _ _ _ rfl)
      (chunk3 i h2 _ (first_bit i) arg1.view f1 arg3.view f3 arg7.view f7 arg8.view f8 _ _ _ _ _ _ _ _ _ _ _ _ _ _ _ _ _ _ rfl)
      (chunk4 i h2 _ (first_bit i) arg1.view f1 arg3.view f3 arg7.view f7 arg8.view f8 _ _ _ _ _ _ _ _ _ _ _ _ _ _ _ _ _ _ rfl)
      (chunk5 i h2 _ (first_bit i) arg1.view f1 arg3.view f3 arg7.view f7 arg8.view f8 _ _ _ _ _ _ _ _ _ _ _ _ _ _ _ _ _ _ rfl)
      (chunk6 i h2 _ (first_bit i) arg1.view f1 arg3.view f3 arg7.view f7 arg8.view f8 _ _ _ _ _ _ _ _ _ _ _ _ _ _ _ _ _ _ rfl)
      (chunk7 i h2 _ (first_bit i) arg1.view f1 arg3.view f3 arg7.view f7 arg8.view f8 _ _ _ _ _ _ _ _ _ _ _ _ _ _ _ _ _ _ rfl)
      (chunk8 i h2 _ (first_bit i) arg1.view f1 arg3.view f3 arg7.view f7 arg8.view f8 _ _ _ _ _ _ _ _ _ _ _ _ _ _ _ _ _ _ rfl)
      (chunk9 i h2 _ (first_bit i) arg1.view f1 arg3.view f3 arg7.view f7 arg8.view f8 _ _ _ _ _ _ _ _ _ _ _ _ _ _ _ _ _ _ rfl) r N
  isplitl [H5]
  · iexists _; isplitl [H5]
    · iexists _; isplitr; swap; · iexact H5
      ipureintro; rfl
    ipureintro
    exact ⟨fun h => absurd h (by omega), fun _ => rfl⟩
  isplitl [H6]
  · iexists _; isplitl [H6]
    · iexists _; isplitr; swap; · iexact H6
      ipureintro; rfl
    ipureintro
    exact ⟨fun h => absurd h (by omega), fun _ => rfl⟩
  isplitl [H7]
  · iexists _; isplitl [H7]
    · iexists _; isplitr; swap; · iexact H7
      ipureintro; rfl
    ipureintro
    exact fun h => absurd h (by omega)
  iexists _; isplitl [H8]
  · iexists _; isplitr; swap; · iexact H8
    ipureintro; rfl
  ipureintro
  sl_unfold_run_names
  intro _ r N
  exact acc_written arg8.view f8 _ _ _ _ _ _ _ _ _ _ _ _ _ _ _ _ _ _ _ _ _
    (chunk0 i h2 _ (first_bit i) arg1.view f1 arg3.view f3 arg7.view f7 arg8.view f8 _ _ _ _ _ _ _ _ _ _ _ _ _ _ _ _ _ _ rfl)
    (chunk1 i h2 _ (first_bit i) arg1.view f1 arg3.view f3 arg7.view f7 arg8.view f8 _ _ _ _ _ _ _ _ _ _ _ _ _ _ _ _ _ _ rfl)
    (chunk2 i h2 _ (first_bit i) arg1.view f1 arg3.view f3 arg7.view f7 arg8.view f8 _ _ _ _ _ _ _ _ _ _ _ _ _ _ _ _ _ _ rfl)
    (chunk3 i h2 _ (first_bit i) arg1.view f1 arg3.view f3 arg7.view f7 arg8.view f8 _ _ _ _ _ _ _ _ _ _ _ _ _ _ _ _ _ _ rfl)
    (chunk4 i h2 _ (first_bit i) arg1.view f1 arg3.view f3 arg7.view f7 arg8.view f8 _ _ _ _ _ _ _ _ _ _ _ _ _ _ _ _ _ _ rfl)
    (chunk5 i h2 _ (first_bit i) arg1.view f1 arg3.view f3 arg7.view f7 arg8.view f8 _ _ _ _ _ _ _ _ _ _ _ _ _ _ _ _ _ _ rfl)
    (chunk6 i h2 _ (first_bit i) arg1.view f1 arg3.view f3 arg7.view f7 arg8.view f8 _ _ _ _ _ _ _ _ _ _ _ _ _ _ _ _ _ _ rfl)
    (chunk7 i h2 _ (first_bit i) arg1.view f1 arg3.view f3 arg7.view f7 arg8.view f8 _ _ _ _ _ _ _ _ _ _ _ _ _ _ _ _ _ _ rfl)
    (chunk8 i h2 _ (first_bit i) arg1.view f1 arg3.view f3 arg7.view f7 arg8.view f8 _ _ _ _ _ _ _ _ _ _ _ _ _ _ _ _ _ _ rfl)
    (chunk9 i h2 _ (first_bit i) arg1.view f1 arg3.view f3 arg7.view f7 arg8.view f8 _ _ _ _ _ _ _ _ _ _ _ _ _ _ _ _ _ _ rfl) r N

end Cert.KernelIdeal.Hand

end
-- ==== Proof.Blocks.lean ====
/-
  The blocks of the arguments that a grid point finds, and what the point's codes, scales and products are of the whole arrays: block `b` of
  the gradient is columns `512 b` to `512 b + 511`, so its four groups are groups `4 b` to `4 b + 3` of each row, and the products of the 19
  blocks add up to the product of the whole rows.
-/
module

public import proofs.«01_k».proof.Proof.Spec
public import proofs.«01_k».proof.Proof.KernelIdealStep
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Cert.Quant Cert.Spec

/-! ## The grid's points -/

theorem coord_eq : ∀ t : Fin cfg0.N, (cfg0.grid.coords t 0).val = t.val := by decide +kernel
theorem index0 : ∀ t : Fin cfg0.N, win0_0.index t = ![0, 0] := by decide +kernel
theorem index1 : ∀ t : Fin cfg0.N, win0_1.index t = ![0, min t.val 18] := by decide +kernel
theorem index2 : ∀ t : Fin cfg0.N, win0_2.index t = ![0, t.val - 1] := by decide +kernel
theorem index4 : ∀ t : Fin cfg0.N, win0_4.index t = ![0, min t.val 18] := by decide +kernel

variable (m : (ℓ : Loc nD τ sig) → Buf (Elt Ideal) ℓ) (c : Dev nD)

/-- The three arguments as the kernel reads them: the gradient as a matrix, the weight's words and the weight's scales. -/
def dyAt (r : Fin 1536) (k : Fin 9728) : EReal := (V m c main_v0 : S1536x9728.Idx → EReal) (ix2 r k)
def weightAt (n : Fin 2560) (k : Fin 9728) : EReal := (V m c main_arg1 : S2560x9728.Idx → EReal) (ix2 n k)
def wscaleAt (a : Fin 20) (b : Fin 76) : EReal := (V m c main_arg2 : S20x76.Idx → EReal) (ix2 a b)

theorem iblk0 (t : Fin cfg0.N) (a : Fin 20) (b : Fin 76) : (iblk m c 0 t : S20x76.Idx → EReal) (ix2 a b) = wscaleAt m c a b := by
  unfold wscaleAt
  blk_ext [iblk, index0 t]

theorem iblk1 (t : Fin cfg0.N) (r : Fin 1536) (q : Fin 512) :
    (iblk m c 1 t : S1536x512.Idx → EReal) (ix2 r q) = dyAt m c r ⟨min t.val 18 * 512 + q.val, by omega⟩ := by
  unfold dyAt
  blk_ext [iblk, index1 t]

theorem iblk2 (t : Fin cfg0.N) (n : Fin 2560) (q : Fin 512) :
    (iblk m c 2 t : S2560x512.Idx → EReal) (ix2 n q) = weightAt m c n ⟨(t.val - 1) * 512 + q.val, by have : t.val < 20 := t.isLt; omega⟩ := by
  unfold weightAt
  blk_ext [iblk, index2 t]

/-! ## A block's groups -/

/-- `X` is block `b` of `D`. -/
def IsBlock (D : Fin 1536 → Fin 9728 → EReal) (b : ℕ) (X : S1536x512.Idx → EReal) : Prop :=
  ∀ (r : Fin 1536) (q : Fin 512) (k : Fin 9728), k.val = b * 512 + q.val → X (ix2 r q) = D r k

section Group
variable {D : Fin 1536 → Fin 9728 → EReal} {X : S1536x512.Idx → EReal} {b : ℕ} (hX : IsBlock D b X)
include hX

theorem bgrp_eq (r : Fin 1536) (j : Fin 4) (g : Fin 76) (hg : g.val = 4 * b + j.val) : bgrp X r j = grp D r g :=
  funext fun l => hX r _ _ (by show g.val * 128 + l.val = b * 512 + (j.val * 128 + l.val); omega)

theorem bscale_eq (r : Fin 1536) (j : Fin 4) (g : Fin 76) (hg : g.val = 4 * b + j.val) : bscale X r j = scaleAt D r g := by
  unfold bscale scaleAt; rw [bgrp_eq hX r j g hg]

theorem bcode_eq (r : Fin 1536) (q : Fin 512) (k : Fin 9728) (hk : k.val = b * 512 + q.val) : bcode X r q = codeAt D r k := by
  unfold bcode codeAt
  rw [bgrp_eq hX r ⟨q.val / 128, by omega⟩ (gOf k) (by show k.val / 128 = 4 * b + q.val / 128; omega)]
  exact congrArg (gcode _) (Fin.ext (by show q.val % 128 = k.val % 128; omega))

theorem bdeq_eq (r : Fin 1536) (q : Fin 512) (k : Fin 9728) (hk : k.val = b * 512 + q.val) : bdeq X r q = deqAt D r k := by
  unfold bdeq deqAt
  rw [bgrp_eq hX r ⟨q.val / 128, by omega⟩ (gOf k) (by show k.val / 128 = 4 * b + q.val / 128; omega)]
  exact congrArg (gdeq _) (Fin.ext (by show q.val % 128 = k.val % 128; omega))

end Group

/-! ## The product, block by block -/

section Sum
variable (D : Fin 1536 → Fin 9728 → EReal) (W : Fin 2560 → Fin 9728 → EReal) (S : Fin 20 → Fin 76 → EReal)

/-- One product of the contraction, nothing past its end, -/
def term (r : Fin 1536) (n : Fin 2560) (k : ℕ) : EReal :=
  if h : k < 9728 then deqAt D r ⟨k, h⟩ * wAt W S n ⟨k, h⟩ else 0

/-- and the contraction's first `b` blocks. -/
def psum (r : Fin 1536) (n : Fin 2560) (b : ℕ) : EReal := ∑ k ∈ Finset.range (b * 512), term D W S r n k

theorem psum_zero (r : Fin 1536) (n : Fin 2560) : psum D W S r n 0 = 0 := by
  unfold psum; rw [Nat.zero_mul, Finset.range_zero, Finset.sum_empty]

theorem psum_succ (r : Fin 1536) (n : Fin 2560) (b : ℕ) :
    psum D W S r n (b + 1) = psum D W S r n b + ∑ k : Fin 512, term D W S r n (b * 512 + k.val) := by
  unfold psum
  rw [Nat.succ_mul, Finset.sum_range_add, Finset.sum_range (fun x => term D W S r n (b * 512 + x))]

theorem psum_all (r : Fin 1536) (n : Fin 2560) : psum D W S r n 19 = dxAt D W S r n := by
  unfold psum dxAt
  rw [show 19 * 512 = 9728 from rfl, Finset.sum_range]
  refine Finset.sum_congr rfl fun k _ => ?_
  unfold term; rw [dif_pos k.isLt]

/-- A point's multiplication adds its block to the sum of the blocks before it. -/
theorem accOf_eq (i : grid0.Coords) (t : ℕ) (hi : (i 0).val = t + 1) (Sb : S20x76.Idx → EReal) (Wb : S2560x512.Idx → EReal)
    (R7 : S2x1536x512.Idx → EReal) (R8 : S1536x2560.Idx → EReal) (ht : t < 19)
    (hS : ∀ a b, Sb (ix2 a b) = S a b) (hW : ∀ (n : Fin 2560) (q : Fin 512), Wb (ix2 n q) = W n ⟨t * 512 + q.val, by omega⟩)
    (h7 : ∀ (r : Fin 1536) (q : Fin 512), R7 (ix3 (oslot i) r q) = deqAt D r ⟨t * 512 + q.val, by omega⟩)
    (h8 : 1 ≤ t → ∀ r n, R8 (ix2 r n) = psum D W S r n t) (r : Fin 1536) (n : Fin 2560) :
    accOf i Sb Wb R7 R8 r n = psum D W S r n (t + 1) := by
  rw [psum_succ]
  unfold accOf
  congr 1
  · by_cases h : t = 0
    · subst h; rw [if_pos (by omega), psum_zero]
    · rw [if_neg (by omega), h8 (by omega)]
  · refine Finset.sum_congr rfl fun k _ => ?_
    unfold term
    rw [dif_pos (by omega), h7, hW, hS]
    unfold wAt
    congr 2
    exact congrArg (S _) (Fin.ext (by show 4 * ((i 0).val - 1) + k.val / 128 = (t * 512 + k.val) / 128; omega))
end Sum

end Cert.KernelIdeal.Hand

end
-- ==== Proof.KernelIdealValue.lean ====
/-
  The kernel's run over the extended reals, with what it computes: between points the last dequantised block stays in its slot and the
  accumulator holds the product of the blocks before it; a point leaves its block's codes and scales in the blocks of the results, and the
  last point the whole product.
-/
module

public import proofs.«01_k».proof.Proof.Blocks
public import proofs.«01_k».proof.Proof.KernelIdealFrame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Quant Cert.Spec

local notation "𝕄" => MT nD τ sig Unit (Elt Ideal) ℕ (UR sig nD τ) ℕ

variable (m : (ℓ : Loc nD τ sig) → Buf (Elt Ideal) ℓ) (ρ : Dev nD → PrngReg)

/-- The kernel's results, of the arrays it reads. -/
abbrev scaleK (c : Dev nD) := scaleAt (dyAt m c)
abbrev codeK (c : Dev nD) := codeAt (dyAt m c)
abbrev deqK (c : Dev nD) := deqAt (dyAt m c)
abbrev psumK (c : Dev nD) := psum (dyAt m c) (weightAt m c) (wscaleAt m c)
abbrev dxK (c : Dev nD) := dxAt (dyAt m c) (weightAt m c) (wscaleAt m c)

/-- What point `t` may leave in a result's block: the product whole at the last point; -/
def After3 (c : Dev nD) (t : ℕ) (X : S1536x2560.Idx → EReal) : Prop :=
  t = 19 → ∀ r n, X (ix2 r n) = dxK m c r n
/-- its block of codes, and at the last point the codes it found; -/
def After4 (c : Dev nD) (t : ℕ) (Y X : S1536x512.Idx → EReal) : Prop :=
  (t < 19 → ∀ (r : Fin 1536) (q : Fin 512) (k : Fin 9728), k.val = t * 512 + q.val → X (ix2 r q) = codeK m c r k) ∧ (t = 19 → X = Y)
/-- four lanes of scales, the other lanes as found, and at the last point all as found. -/
def After5 (c : Dev nD) (t : ℕ) (Y X : S1536x128.Idx → EReal) : Prop :=
  (t < 19 → ∀ (r : Fin 1536) (l : Fin 128),
      (∀ g : Fin 76, g.val = l.val → 4 * t ≤ l.val → l.val < 4 * t + 4 → X (ix2 r l) = scaleK m c r g)
        ∧ (l.val < 4 * t → X (ix2 r l) = Y (ix2 r l)))
    ∧ (t = 19 → X = Y)

/-- What is known of the two scratch buffers before point `t`. -/
def Known7 (c : Dev nD) (t : ℕ) (G : S2x1536x512.Idx → EReal) : Prop :=
  1 ≤ t → t ≤ 19 → ∀ (u : Fin 2), u.val = (t - 1) % 2 → ∀ (r : Fin 1536) (q : Fin 512) (k : Fin 9728), k.val = (t - 1) * 512 + q.val →
    G (ix3 u r q) = deqK m c r k
def Known8 (c : Dev nD) (t : ℕ) (G : S1536x2560.Idx → EReal) : Prop :=
  2 ≤ t → ∀ r n, G (ix2 r n) = psumK m c r n (t - 1)

/-! ## The steps carry this from point to point -/

section Step
variable {m} {c : Dev nD} (t : Fin cfg0.N) {S : S20x76.Idx → EReal} {X : S1536x512.Idx → EReal} {W : S2560x512.Idx → EReal}
  (hS : S = iblk m c 0 t) (hX : X = iblk m c 1 t) (hW : W = iblk m c 2 t)

include hX in
theorem block_eq (h : t.val < 19) : IsBlock (dyAt m c) t.val X := by
  subst hX
  intro r q k hk
  rw [iblk1]
  exact congrArg (dyAt m c r) (Fin.ext (by show min t.val 18 * 512 + q.val = k.val; omega))

include hS hW in
theorem acc_eq (h : 1 ≤ t.val) {R7 : S2x1536x512.Idx → EReal} {R8 : S1536x2560.Idx → EReal}
    (h7 : Known7 m c t.val R7) (h8 : Known8 m c t.val R8) (r : Fin 1536) (n : Fin 2560) :
    accOf (grid0.coords t) S W R7 R8 r n = psumK m c r n t.val := by
  have ht : t.val < 20 := t.isLt
  have hc : (grid0.coords t 0).val = t.val := coord_eq t
  subst hS; subst hW
  obtain ⟨k, hk⟩ : ∃ k, t.val = k + 1 := ⟨t.val - 1, by omega⟩
  rw [hk]
  refine accOf_eq (dyAt m c) (weightAt m c) (wscaleAt m c) (grid0.coords t) k (by omega) _ _ R7 R8 (by omega) (iblk0 m c t) (fun n q => ?_)
    (fun r q => ?_) (fun h1 r n => ?_) r n
  · rw [iblk2]
    exact congrArg (weightAt m c n) (Fin.ext (by show (t.val - 1) * 512 + q.val = k * 512 + q.val; omega))
  · exact h7 h (by omega) _ (by show ((grid0.coords t 0).val + 1) % 2 = _; omega) r q _ (by show k * 512 + q.val = _; omega)
  · rw [h8 (by omega), show t.val - 1 = k by omega]

include hS hW in
theorem after3_of {R7 : S2x1536x512.Idx → EReal} {R8 G : S1536x2560.Idx → EReal} (h7 : Known7 m c t.val R7) (h8 : Known8 m c t.val R8)
    (h : P4 (grid0.coords t) S W R7 R8 G) : After3 m c t.val G := fun ht r n => by
  rw [h ((coord_eq t).trans ht), acc_eq t hS hW (by omega) h7 h8, ht]
  exact psum_all _ _ _ r n

include hX in
theorem after4_of {Y G : S1536x512.Idx → EReal} (h : P5 (grid0.coords t) X Y G) : After4 m c t.val Y G :=
  ⟨fun ht r q k hk => (h.1 ((coord_eq t).trans_lt ht) r q).trans (bcode_eq (block_eq t hX ht) r q k hk),
   fun ht => h.2 ((coord_eq t).trans ht)⟩

include hX in
theorem after5_of {Y G : S1536x128.Idx → EReal} (h : P6 (grid0.coords t) X Y G) : After5 m c t.val Y G := by
  have hc : (grid0.coords t 0).val = t.val := coord_eq t
  refine ⟨fun ht r l => ⟨fun g hg h1 h2 => ?_, fun h1 => ?_⟩, fun ht => h.2 (hc.trans ht)⟩
  · rw [h.1 (hc.trans_lt ht)]
    unfold lanes
    rw [dif_pos (by omega)]
    exact bscale_eq (block_eq t hX ht) r _ g (by show g.val = 4 * t.val + (l.val - 4 * (grid0.coords t 0).val); omega)
  · rw [h.1 (hc.trans_lt ht)]
    unfold lanes
    rw [dif_neg (by omega)]

include hX in
theorem known7_of {R7 G : S2x1536x512.Idx → EReal} (h : P7 (grid0.coords t) X R7 G) : Known7 m c (t.val + 1) G := by
  have hc : (grid0.coords t 0).val = t.val := coord_eq t
  intro _ ht u hu r q k hk
  have ht : t.val < 19 := by omega
  rw [h (hc.trans_lt ht), if_pos (Fin.ext (by show u.val = (grid0.coords t 0).val % 2; omega))]
  exact bdeq_eq (block_eq t hX ht) r q k (by omega)

include hS hW in
theorem known8_of {R7 : S2x1536x512.Idx → EReal} {R8 G : S1536x2560.Idx → EReal} (h7 : Known7 m c t.val R7) (h8 : Known8 m c t.val R8)
    (h : P8 (grid0.coords t) S W R7 R8 G) : Known8 m c (t.val + 1) G := fun ht r n => by
  have hc : (grid0.coords t 0).val = t.val := coord_eq t
  rw [h (by omega), acc_eq t hS hW (by omega) h7 h8, Nat.add_sub_cancel]
end Step

/-! ## The run -/

/-- The invariant before point `t`. -/
def PhiV (c : Dev nD) (t : ℕ) : sProp 𝕄 :=
  iprop(((∃ G, owns (c : Thread nD τ) deqM fullShare G ∗ ⌜Known7 m c t G⌝) ∗ (∃ G, owns (c : Thread nD τ) accM fullShare G ∗ ⌜Known8 m c t G⌝))
    ∗ ∃ r, prngReg c r)

/-- What a point may leave in window `w`'s block. -/
def afterV (c : Dev nD) : (w : Fin cfg0.W) → Fin cfg0.N → (Y X : (cfg0.win w).block.Idx → Elt Ideal (cfg0.win w).elt) → Prop
  | 0 => fun _ Y X => X = Y
  | 1 => fun _ Y X => X = Y
  | 2 => fun _ Y X => X = Y
  | 3 => fun t _ X => After3 m c t.val X
  | 4 => fun t Y X => After4 m c t.val Y X
  | 5 => fun t Y X => After5 m c t.val Y X
  | ⟨_ + 6, h⟩ => absurd h (Nat.not_lt.2 (Nat.le_add_left _ _))

/-- The proof data. -/
def vdats (c : Dev nD) : RDat τ (Elt Ideal) Unit ℕ (UR sig nD τ) ℕ cfg0 c where
  A w := V m c (Pipeline.arrRef spec0 w)
  after := afterV m c
  Φ t := PhiV m c t.val
  q _ := fullShare
  owed _ := 0

/-- A point finds its blocks of the arguments. -/
theorem finds0 (c : Dev nD) (t : Fin cfg0.N) (Y) (h : (vdats m c).Finds 0 t Y) : Y = iblk m c 0 t := by
  obtain ⟨d, h⟩ := (vdats m c).finds_in_eq_fetched 0 rfl (fun _ _ _ => rfl) (fun _ _ _ h => h) t Y h
  rw [h]; rfl
theorem finds1 (c : Dev nD) (t : Fin cfg0.N) (Y) (h : (vdats m c).Finds 1 t Y) : Y = iblk m c 1 t := by
  obtain ⟨d, h⟩ := (vdats m c).finds_in_eq_fetched 1 rfl (fun _ _ _ => rfl) (fun _ _ _ h => h) t Y h
  rw [h]; rfl
theorem finds2 (c : Dev nD) (t : Fin cfg0.N) (Y) (h : (vdats m c).Finds 2 t Y) : Y = iblk m c 2 t := by
  obtain ⟨d, h⟩ := (vdats m c).finds_in_eq_fetched 2 rfl (fun _ _ _ => rfl) (fun _ _ _ h => h) t Y h
  rw [h]; rfl

/-- A point's body, from what it finds to what it leaves. -/
theorem sound_step (c : Dev nD) (t : Fin cfg0.N) (S : S20x76.Idx → EReal) (X : S1536x512.Idx → EReal) (W : S2560x512.Idx → EReal)
    (R4 : S1536x2560.Idx → EReal) (R5 : S1536x512.Idx → EReal) (R6 : S1536x128.Idx → EReal) (R7 : S2x1536x512.Idx → EReal) (R8 : S1536x2560.Idx → EReal)
    (K : PUnit → sProp 𝕄) :
    iprop(owns (c : Thread nD τ) (win0_0.stage (cfg0.slots t 0)) fullShare S ∗ owns (c : Thread nD τ) (win0_1.stage (cfg0.slots t 1)) fullShare X
        ∗ owns (c : Thread nD τ) (win0_2.stage (cfg0.slots t 2)) fullShare W ∗ owns (c : Thread nD τ) (win0_3.stage (cfg0.slots t 3)) fullShare R4
        ∗ owns (c : Thread nD τ) (win0_4.stage (cfg0.slots t 4)) fullShare R5 ∗ owns (c : Thread nD τ) (win0_5.stage (cfg0.slots t 5)) fullShare R6
        ∗ owns (c : Thread nD τ) deqM fullShare R7 ∗ owns (c : Thread nD τ) accM fullShare R8
        ∗ (iprop(owns (c : Thread nD τ) (win0_0.stage (cfg0.slots t 0)) fullShare S ∗ owns (c : Thread nD τ) (win0_1.stage (cfg0.slots t 1)) fullShare X
            ∗ owns (c : Thread nD τ) (win0_2.stage (cfg0.slots t 2)) fullShare W
            ∗ (∃ G, owns (c : Thread nD τ) (win0_3.stage (cfg0.slots t 3)) fullShare G ∗ ⌜P4 (grid0.coords t) S W R7 R8 G⌝)
            ∗ (∃ G, owns (c : Thread nD τ) (win0_4.stage (cfg0.slots t 4)) fullShare G ∗ ⌜P5 (grid0.coords t) X R5 G⌝)
            ∗ (∃ G, owns (c : Thread nD τ) (win0_5.stage (cfg0.slots t 5)) fullShare G ∗ ⌜P6 (grid0.coords t) X R6 G⌝)
            ∗ (∃ G, owns (c : Thread nD τ) deqM fullShare G ∗ ⌜P7 (grid0.coords t) X R7 G⌝)
            ∗ (∃ G, owns (c : Thread nD τ) accM fullShare G ∗ ⌜P8 (grid0.coords t) S W R7 R8 G⌝)) -∗ K ⟨⟩))
      ⊢ wp frame (wpE (defs₀ (F := Ideal)) Variants.none (c : Thread nD τ) none) Set.univ (bodyAt0 t) K := by
  unfold bodyAt0
  rcases cond_cases (grid0.coords t) with ⟨h1, h2, h3⟩ | ⟨h1, h2, h3⟩ | ⟨h1, h2, h3⟩
  · exact step_first c (grid0.coords t) _ _ _ _ _ _ _ _ _ _ _ _ _ _ _ _ h1 h2 h3 S X W R4 R5 R6 R7 R8 K
  · exact step_mid c (grid0.coords t) _ _ _ _ _ _ _ _ _ _ _ _ _ _ _ _ h1 h2 h3 S X W R4 R5 R6 R7 R8 K
  · exact step_last c (grid0.coords t) _ _ _ _ _ _ _ _ _ _ _ _ _ _ _ _ h1 h2 h3 S X W R4 R5 R6 R7 R8 K

def bodyPreV (c : Dev nD) (t : Fin cfg0.N) (Y : (w : Fin cfg0.W) → (cfg0.win w).block.Idx → Elt Ideal (cfg0.win w).elt) : sProp 𝕄 :=
  iprop((vdats m c).Φ t.castSucc ∗ (vdats m c).owesAt () t.castSucc
    ∗ owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5))

def bodyPostV (c : Dev nD) (t : Fin cfg0.N) (Y : (w : Fin cfg0.W) → (cfg0.win w).block.Idx → Elt Ideal (cfg0.win w).elt) : sProp 𝕄 :=
  iprop((vdats m c).Φ t.succ ∗ (vdats m c).owesAt () t.succ
    ∗ (∃ X, ⌜(vdats m c).after 0 t (Y 0) X⌝ ∗ owns (c : Thread nD τ) (win0_0.stage (cfg0.slots t 0)) fullShare X)
    ∗ (∃ X, ⌜(vdats m c).after 1 t (Y 1) X⌝ ∗ owns (c : Thread nD τ) (win0_1.stage (cfg0.slots t 1)) fullShare X)
    ∗ (∃ X, ⌜(vdats m c).after 2 t (Y 2) X⌝ ∗ owns (c : Thread nD τ) (win0_2.stage (cfg0.slots t 2)) fullShare X)
    ∗ (∃ X, ⌜(vdats m c).after 3 t (Y 3) X⌝ ∗ owns (c : Thread nD τ) (win0_3.stage (cfg0.slots t 3)) fullShare X)
    ∗ (∃ X, ⌜(vdats m c).after 4 t (Y 4) X⌝ ∗ owns (c : Thread nD τ) (win0_4.stage (cfg0.slots t 4)) fullShare X)
    ∗ (∃ X, ⌜(vdats m c).after 5 t (Y 5) X⌝ ∗ owns (c : Thread nD τ) (win0_5.stage (cfg0.slots t 5)) fullShare X))

theorem sound_value (c : Dev nD) (t : Fin cfg0.N) (Y : (w : Fin cfg0.W) → (cfg0.win w).block.Idx → Elt Ideal (cfg0.win w).elt)
    (hY : ∀ w, (vdats m c).Finds w t (Y w)) :
    bodyPreV m c t Y ⊢ wp frame (wpE (defs₀ (F := Ideal)) Variants.none (c : Thread nD τ) none) Set.univ (bodyAt0 t) (fun _ => bodyPostV m c t Y) := by
  have e0 := finds0 m c t _ (hY 0)
  have e1 := finds1 m c t _ (hY 1)
  have e2 := finds2 m c t _ (hY 2)
  unfold bodyPreV bodyPostV
  rw [show (vdats m c).owesAt () t.succ = (vdats m c).owesAt () t.castSucc from rfl,
    show (vdats m c).Φ t.succ = PhiV m c (t.val + 1) from rfl,
    show (vdats m c).Φ t.castSucc = PhiV m c t.val from rfl]
  unfold PhiV
  iintro ⟨⟨⟨⟨%R7, H7, %k7⟩, ⟨%R8, H8, %k8⟩⟩, Hg⟩, HO, H1, H2, H3, H4, H5, H6⟩
  iapply (sound_step c t (Y 0) (Y 1) (Y 2) (Y 3) (Y 4) (Y 5) R7 R8 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, ⟨%G4, H4, %p4⟩, ⟨%G5, H5, %p5⟩, ⟨%G6, H6, %p6⟩, ⟨%G7, H7, %p7⟩, ⟨%G8, H8, %p8⟩⟩
  isplitl [H7 H8 Hg]
  · isplitl [H7 H8]
    · isplitl [H7]
      · iexists G7; isplitl [H7]; · iexact H7
        ipureintro; exact known7_of t e1 p7
      iexists G8; isplitl [H8]; · iexact H8
      ipureintro; exact known8_of t e0 e2 k7 k8 p8
    iexact Hg
  isplitl [HO]; · iexact HO
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists G4; isplitr; · ipureintro; exact after3_of t e0 e2 k7 k8 p4
    iexact H4
  isplitl [H5]
  · iexists G5; isplitr; · ipureintro; exact after4_of t e1 p5
    iexact H5
  iexists G6; isplitr; · ipureintro; exact after5_of t e1 p6
  iexact H6

theorem body_value (c : Dev nD) : (vdats m c).BodyObligation (defs₀ (F := Ideal)) Variants.none () Set.univ := fun t Y hY => by
  rw [bigSep_W0, bigSep_W0, defs₀_row]
  exact triple_restated (sound_value m c t Y hY) rfl .rfl fun _ => .rfl

/-- Nothing is known of the scratch buffers at the start, and what is known at the end is forgotten. -/
theorem phi_in (c : Dev nD) : Pipeline.ΦA (U := UR sig nD τ) (Val := Elt Ideal) spec0 c ⊢ (vdats m c).Φ 0 := by
  rw [PhiA0_eq, show (vdats m c).Φ 0 = PhiV m c 0 from rfl]
  unfold PhiV anyOwned
  iintro ⟨⟨⟨%x, H7⟩, ⟨%y, H8⟩⟩, Hg⟩
  isplitl [H7 H8]
  · isplitl [H7]
    · iexists x; isplitl [H7]; · iexact H7
      ipureintro; intro h; exact absurd h (by omega)
    iexists y; isplitl [H8]; · iexact H8
    ipureintro; intro h; exact absurd h (by omega)
  iexact Hg

theorem phi_out (c : Dev nD) : (vdats m c).Φ (Fin.last cfg0.N) ⊢ Pipeline.ΦA (U := UR sig nD τ) (Val := Elt Ideal) spec0 c := by
  rw [PhiA0_eq, show (vdats m c).Φ (Fin.last cfg0.N) = PhiV m c (Fin.last cfg0.N).val from rfl]
  unfold PhiV anyOwned
  iintro ⟨⟨⟨%x, H7, %_⟩, ⟨%y, H8, %_⟩⟩, Hg⟩
  isplitl [H7 H8]
  · isplitl [H7]
    · iexists x; iexact H7
    iexists y; iexact H8
  iexact Hg

-- the launch theorem's implicit arguments are found by unifying its conclusion with this one, which takes unfolding plain
-- definitions in a metavariable's type
set_option backward.isDefEq.respectTransparency.types false in
theorem run_value : θ_run defs (onTc (τ := τ) (main (F := Ideal))) (s₀ m ρ)
    (fun r => RDat.FramePost (cfgs 0) (vdats m) (V m) r ∧ r.2.sem = fun _ => 0) :=
  Pipeline.RDat.θ_run_frame_track (Q' := _) cfgs (0 : Fin 1) launch0 defs₀ Variants.none (vdats m) m ρ main
    (hbody := body_value m) (hshare := fun c w => by unfold RDat.share; split <;> rfl)
    (howed := fun _ _ => rfl) (V := V m) (hmain := hmain m Variants.none) (hA := fun _ _ => rfl) (hin := phi_in m) (hout := phi_out m)

end Cert.KernelIdeal.Hand

end
-- ==== Proof.KernelIdealResult.lean ====
/-
  The arrays that the kernel's run leaves: the product, the codes and the scales of the arguments.
-/
module

public import proofs.«01_k».proof.Proof.KernelIdealValue

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (RDat Dat)
open Cert.Quant Cert.Spec

variable (m : (ℓ : Loc nD τ sig) → Buf (Elt Ideal) ℓ) (ρ : Dev nD → PrngReg)

/-! ## What the blocks of the results hold when they are written back -/

theorem nofetch4 : ∀ t : Fin cfg0.N, (cfg0.win 4).fetch t = false := by decide +kernel
theorem nofetch5 : ∀ t : Fin cfg0.N, (cfg0.win 5).fetch t = false := by decide +kernel
theorem flush3 : ∀ t : Fin cfg0.N, (cfg0.win 3).flush t = true → t.val = 19 := by decide +kernel
theorem flush4 : ∀ t : Fin cfg0.N, t.val = 18 → ¬ (cfg0.win 4).flush t = true := by decide +kernel
theorem flush5 : ∀ t : Fin cfg0.N, (cfg0.win 5).flush t = true → t.val = 19 := by decide +kernel

/-- The whole product, at the last point. -/
theorem leaves3 (c : Dev nD) (t : Fin cfg0.N) (ht : t.val = 19) (X : S1536x2560.Idx → EReal) (h : (vdats m c).Leaves 3 t X)
    (r : Fin 1536) (n : Fin 2560) : X (ix2 r n) = dxK m c r n := by
  obtain ⟨Y, _, h⟩ := h
  exact (show After3 m c t.val X from h) ht r n

/-- A block's codes, at its point; -/
theorem leaves4_lt (c : Dev nD) (t : Fin cfg0.N) (ht : t.val < 19) (X : S1536x512.Idx → EReal) (h : (vdats m c).Leaves 4 t X)
    (r : Fin 1536) (q : Fin 512) (k : Fin 9728) (hk : k.val = t.val * 512 + q.val) : X (ix2 r q) = codeK m c r k := by
  obtain ⟨Y, _, h⟩ := h
  exact (show After4 m c t.val Y X from h).1 ht r q k hk

/-- the last point finds the last block's codes where the point before left them, and leaves them. -/
theorem leaves4 (c : Dev nD) (t : Fin cfg0.N) (X : S1536x512.Idx → EReal) (h : (vdats m c).Leaves 4 t X)
    (r : Fin 1536) (q : Fin 512) (k : Fin 9728) (hk : k.val = min t.val 18 * 512 + q.val) : X (ix2 r q) = codeK m c r k := by
  have hlt : t.val < 20 := t.isLt
  by_cases ht : t.val < 19
  · exact leaves4_lt m c t ht X h r q k (by omega)
  · obtain ⟨Y, hY, h⟩ := h
    have e : X = Y := (show After4 m c t.val Y X from h).2 (by omega)
    subst e
    rcases ((vdats m c).finds_of_pos (nofetch4 t) (by omega) X).mp hY with hf | hL
    · exact absurd hf (flush4 _ (by show t.val - 1 = 18; omega))
    · exact leaves4_lt m c _ (by show t.val - 1 < 19; omega) X hL r q k (by show k.val = (t.val - 1) * 512 + q.val; omega)

/-- The scales of the blocks up to the point's own; -/
theorem leaves5_lt (c : Dev nD) (n : ℕ) : ∀ (t : Fin cfg0.N), t.val = n → n < 19 → ∀ X : S1536x128.Idx → EReal, (vdats m c).Leaves 5 t X →
    ∀ (r : Fin 1536) (l : Fin 128) (g : Fin 76), g.val = l.val → l.val < 4 * (n + 1) → X (ix2 r l) = scaleK m c r g := by
  induction n with
  | zero =>
    intro t ht _ X h r l g hg hl
    obtain ⟨Y, _, h⟩ := h
    exact ((show After5 m c t.val Y X from h).1 (by omega) r l).1 g hg (by omega) (by omega)
  | succ n ih =>
    intro t ht hn X h r l g hg hl
    obtain ⟨Y, hY, h⟩ := h
    have h := (show After5 m c t.val Y X from h).1 (by omega) r l
    by_cases hlt : l.val < 4 * t.val
    · rw [h.2 hlt]
      rcases ((vdats m c).finds_of_pos (nofetch5 t) (by omega) Y).mp hY with hf | hL
      · exact absurd (flush5 _ hf) (by show ¬ t.val - 1 = 19; omega)
      · exact ih _ (by show t.val - 1 = n; omega) (by omega) Y hL r l g hg (by omega)
    · exact h.1 g hg (by omega) (by omega)

/-- all of them, at the last point. -/
theorem leaves5 (c : Dev nD) (t : Fin cfg0.N) (ht : t.val = 19) (X : S1536x128.Idx → EReal) (h : (vdats m c).Leaves 5 t X)
    (r : Fin 1536) (l : Fin 128) (g : Fin 76) (hg : g.val = l.val) : X (ix2 r l) = scaleK m c r g := by
  obtain ⟨Y, hY, h⟩ := h
  have e : X = Y := (show After5 m c t.val Y X from h).2 ht
  subst e
  rcases ((vdats m c).finds_of_pos (nofetch5 t) (by omega) X).mp hY with hf | hL
  · exact absurd (flush5 _ hf) (by show ¬ t.val - 1 = 19; omega)
  · exact leaves5_lt m c 18 _ (by show t.val - 1 = 18; omega) (by omega) X hL r l g hg (by omega)

/-! ## The arrays -/

theorem index3 : ∀ t : Fin cfg0.N, win0_3.index t = ![0, 0] := by decide +kernel
theorem index5 : ∀ t : Fin cfg0.N, win0_5.index t = ![0, 0] := by decide +kernel

section Arrays
variable {m} {c : Dev nD} (after : (w : Fin cfg0.W) → Fin cfg0.N → (cfg0.win w).block.Idx → Elt Ideal (cfg0.win w).elt)
  (hL : ∀ (w : Fin cfg0.W) (u : Fin cfg0.N), (cfg0.win w).flush u = true → (vdats m c).Leaves w u (after w u))
include hL

theorem arr3 : ((vdats m c).withAfter after).arrAt 3 cfg0.N = (fun i => dxK m c (i 0) (i 1) : S1536x2560.Idx → EReal) := by
  refine Dat.arrAt_eq_of_covers _ 3 _ (by decide +kernel) fun t hf y => ?_
  have h := leaves3 m c t (flush3 t hf) _ (hL 3 t hf)
  have e0 : (((win0_3.blk t).view.emb y 0 : Fin 1536) : ℕ) = (y 0 : ℕ) := by blk_simp [index3 t]
  have e1 : (((win0_3.blk t).view.emb y 1 : Fin 2560) : ℕ) = (y 1 : ℕ) := by blk_simp [index3 t]
  blk_simp
  refine (congrArg (after 3 t) (eq_ix2 (show S1536x2560.Idx from y))).trans ((h (y 0) (y 1)).trans ?_)
  exact congrArg₂ (dxK m c) (Fin.ext e0.symm) (Fin.ext e1.symm)

theorem arr4 : ((vdats m c).withAfter after).arrAt 4 cfg0.N = (fun i => codeK m c (i 0) (i 1) : S1536x9728.Idx → EReal) := by
  refine Dat.arrAt_eq_of_covers _ 4 _ (by decide +kernel) fun t hf y => ?_
  have h := leaves4 m c t _ (hL 4 t hf)
  have e0 : (((win0_4.blk t).view.emb y 0 : Fin 1536) : ℕ) = (y 0 : ℕ) := by blk_simp [index4 t]
  have e1 : (((win0_4.blk t).view.emb y 1 : Fin 9728) : ℕ) = min t.val 18 * 512 + (y 1 : ℕ) := by blk_simp [index4 t]
  blk_simp
  refine (congrArg (after 4 t) (eq_ix2 (show S1536x512.Idx from y))).trans ((h (y 0) (y 1) _ e1).trans ?_)
  exact congrArg (fun r => codeK m c r _) (Fin.ext e0.symm)

theorem arr5 : ((vdats m c).withAfter after).arrAt 5 cfg0.N = (fun i => scaleK m c (i 0) (i 1) : S1536x76.Idx → EReal) := by
  refine Dat.arrAt_eq_of_covers _ 5 _ (by decide +kernel) fun t hf y => ?_
  have h := leaves5 m c t (flush5 t hf) _ (hL 5 t hf)
  have z0 : win0_5.index t 0 = 0 := by rw [index5 t]; rfl
  have z1 : win0_5.index t 1 = 0 := by rw [index5 t]; rfl
  have e0 := Pipeline.Window.rect_emb_val_of_index_zero win0_5 t 0 z0 y
  have e1 := Pipeline.Window.rect_emb_val_of_index_zero win0_5 t 1 z1 y
  blk_simp
  refine (congrArg (after 5 t) (eq_ix2 (show S1536x128.Idx from ((cfg0.win 5).xinj (cfg0.grid.coords t) y)))).trans ((h _ _ _ e1).trans ?_)
  exact congrArg (fun r => scaleK m c r _) (Fin.ext e0.symm)
end Arrays

end Cert.KernelIdeal.Hand

end
-- ==== Proof.RefValue.lean ====
/-
  What the reference computes, element by element: the functions of `Spec`, on values within the finite range.
-/
module

public import proofs.«01_k».proof.Proof.Gen.ReferenceIdeal.Skeleton
public import proofs.«01_k».proof.Proof.Spec

@[expose] public section

set_option maxRecDepth 16384

noncomputable section

namespace Cert.ReferenceIdeal.Hand

open Cert.ReferenceIdeal Cert.ReferenceIdeal.Gen
open Idealize.ShloMosaic
open Cert.Quant Cert.Spec

variable (x : Vec Ideal S1536x9728 .bf16)

/-- The matrix that an array holds. -/
abbrev mat : Fin 1536 → Fin 9728 → EReal := fun r k => x (ix2 r k)

theorem negInf_f32 : Ideal.ofBits .f32 0xFF800000#32 = ⊥ := by
  show Ideal.ieee 8 23 0xFF800000#32 = _
  unfold Ideal.ieee
  rw [if_pos (by rfl), if_pos (by rfl), if_pos (by decide)]

theorem one_f32 : Ideal.ofBits .f32 0x3F800000#32 = 1 := by
  have := word_one
  simpa using this

/-- The peaks of the groups, -/
def peaks : FVec Ideal S1536x76 .f32 :=
  mulf (multiReduction .maximumf [2] S1536x76 (absf (k0_pay2 (F := Ideal) x)) 0xFF800000#32 reduces_S1536x76x128_S1536x76 (.inl rfl) rfl)
    (broadcast S1536x76 (Scalar.ofBits .f32 0x3B124925#32))

/-- and the exponents of their scales. -/
def exps (y : FVec Ideal S1536x76 .f32) : FVec Ideal S1536x76 .f32 :=
  select (cmpf .olt y (broadcast S1536x76 (Scalar.ofBits .f32 0x00800000#32))) (broadcast S1536x76 (Scalar.ofBits .f32 0x00000000#32))
    (addf (floor (divf (log y) (log (broadcast S1536x76 (Scalar.ofBits .f32 0x40000000#32))))) (broadcast S1536x76 (Scalar.ofBits .f32 0x3F800000#32)))

theorem pay3_eq : k0_pay3 (F := Ideal) x = exps (peaks x) := rfl

theorem pay2_apply (r : Fin 1536) (g : Fin 76) (l : Fin 128) : k0_pay2 (F := Ideal) x (ix3 r g l) = grp (mat x) r g l := by
  pointwise [k0_pay2]
  rfl

theorem mulf_apply {s : Shape} (a b : FVec Ideal s .f32) (j : s.Idx) : mulf a b j = a j * b j := rfl

theorem rowMax_apply (v : FVec Ideal S1536x76x128 .f32) (r : Fin 1536) (g : Fin 76) :
    multiReduction .maximumf [2] S1536x76 v 0xFF800000#32 reduces_S1536x76x128_S1536x76 (.inl rfl) rfl (ix2 r g)
      = Finset.univ.fold max ⊥ (fun l => v (ix3 r g l)) := by
  pointwise
  rw [negInf_f32]

theorem peaks_apply (r : Fin 1536) (g : Fin 76) : peaks x (ix2 r g) = peak (grp (mat x) r g) := by
  unfold peaks peak
  rw [mulf_apply, rowMax_apply]
  have h : ∀ l, absf (k0_pay2 (F := Ideal) x) (ix3 r g l) = max (grp (mat x) r g l) (-(grp (mat x) r g l)) := fun l => by
    rw [← pay2_apply x r g l]; rfl
  simp only [h]
  rfl

theorem exps_apply (y : FVec Ideal S1536x76 .f32) (r : Fin 1536) (g : Fin 76) : exps y (ix2 r g) = refExp (y (ix2 r g)) := by
  unfold exps refExp
  pointwise

theorem pay3_apply (r : Fin 1536) (g : Fin 76) : k0_pay3 (F := Ideal) x (ix2 r g) = refExp (peak (grp (mat x) r g)) := by
  rw [pay3_eq, exps_apply, peaks_apply]

/-- The groups of values within the finite range. -/
theorem grp_fin (h : ∀ j, max (x j) (-(x j)) ≤ big) (r : Fin 1536) (g : Fin 76) (l : Fin 128) :
    max (grp (mat x) r g l) (-(grp (mat x) r g l)) ≤ big := h _

/-- A power of two by an array of exponents. -/
theorem powTwo_apply {s : Shape} (e : FVec Ideal s .f32) (j : s.Idx) :
    powf (broadcast s (Scalar.ofBits (F := Ideal) .f32 0x40000000#32)) e j = Ideal.pow (word 0x40000000#32) (e j) := rfl

theorem pay4_apply (h : ∀ j, max (x j) (-(x j)) ≤ big) (r : Fin 1536) (g : Fin 76) :
    k0_pay4 (F := Ideal) x (ix2 r g) = scaleAt (mat x) r g := by
  have h1 := (scale_peak (grp (mat x) r g) (grp_fin x h r g)).1
  unfold k0_pay4 scaleAt
  rw [powTwo_apply, pay3_apply]
  exact h1

theorem negExp_apply (e : FVec Ideal S1536x76 .f32) (j : S1536x76.Idx) :
    subf (broadcast S1536x76 (Scalar.ofBits (F := Ideal) .f32 0x00000000#32)) e j = 0 - e j := by
  pointwise

/-- The inverses of the scales. -/
theorem inv_apply (h : ∀ j, max (x j) (-(x j)) ≤ big) (r : Fin 1536) (g : Fin 76) :
    powf (broadcast S1536x76 (Scalar.ofBits (F := Ideal) .f32 0x40000000#32))
      (subf (broadcast S1536x76 (Scalar.ofBits (F := Ideal) .f32 0x00000000#32)) (k0_pay3 (F := Ideal) x)) (ix2 r g)
      = invOf (peak (grp (mat x) r g)) := by
  have h1 := (scale_peak (grp (mat x) r g) (grp_fin x h r g)).2
  have h2 := pay3_apply x r g
  rw [← h1]
  refine (powTwo_apply _ _).trans (congrArg (Ideal.pow (word 0x40000000#32)) ?_)
  rw [← h2]
  exact negExp_apply _ _

theorem clip_apply (v : FVec Ideal S1536x76x128 .f32) (i : FVec Ideal S1536x76 .f32) (r : Fin 1536) (k : Fin 9728) :
    shapeCast S1536x9728 (truncf .fp8e4m3 (minimumf (broadcast S1536x76x128 (Scalar.ofBits (F := Ideal) .f32 0x43E00000#32))
      (maximumf (broadcast S1536x76x128 (Scalar.ofBits (F := Ideal) .f32 0xC3E00000#32))
        (mulf v (broadcastTo S1536x76x128 (shapeCast S1536x76x1 i shapeCasts_S1536x76_S1536x76x1) broadcasts_S1536x76x1_S1536x76x128))))
      bitsLt_fp8e4m3_f32) shapeCasts_S1536x76x128_S1536x9728 (ix2 r k)
      = min (word 0x43E00000#32) (max (word 0xC3E00000#32) (v (ix3 r (gOf k) (lOf k)) * i (ix2 r (gOf k)))) := by
  pointwise

theorem pay5_apply (h : ∀ j, max (x j) (-(x j)) ≤ big) (r : Fin 1536) (k : Fin 9728) :
    k0_pay5 (F := Ideal) x (ix2 r k) = codeAt (mat x) r k := by
  unfold k0_pay5 codeAt gcode
  rw [clip_apply, inv_apply x h, pay2_apply]

theorem pay6_apply (h : ∀ j, max (x j) (-(x j)) ≤ big) (r : Fin 1536) (k : Fin 9728) :
    k0_pay6 (F := Ideal) x (ix2 r k) = deqAt (mat x) r k := by
  have h4 := pay4_apply x h
  have h5 := pay5_apply x h
  unfold k0_pay6
  generalize k0_pay4 (F := Ideal) x = e at h4 ⊢
  generalize k0_pay5 (F := Ideal) x = v at h5 ⊢
  pointwise
  rw [h4, h5]
  rfl

theorem pay1_apply (d : FVec Ideal S1536x9728 .bf16) (w : Vec Ideal S2560x9728 .fp8e4m3) (s : Vec Ideal S20x76 .f32) (r : Fin 1536) (n : Fin 2560) :
    k0_pay1 (F := Ideal) d (k0_pay7 (F := Ideal) w) s (ix2 r n)
      = ∑ k, d (ix2 r k) * wAt (fun n k => w (ix2 n k)) (fun a b => s (ix2 a b)) n k := by
  pointwise [k0_pay1, k0_pay7]
  rfl

end Cert.ReferenceIdeal.Hand

end
-- ==== Proof.ReferenceIdealResult.lean ====
/-
  The arrays that the reference's run leaves, for a gradient within the finite range: the product, the codes and the scales of the arguments.
-/
module

public import proofs.«01_k».proof.Proof.RefValue
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.Pipeline (Dat)
open Cert.Quant Cert.Spec

variable (m : (ℓ : Loc nD τ sig) → Buf (Elt Ideal) ℓ) (ρ : Dev nD → PrngReg)

/-- The three arguments as the reference reads them. -/
abbrev dyArr (c : Dev nD) : S1536x9728.Idx → EReal := V m c main_v0
abbrev weightArr (c : Dev nD) : S2560x9728.Idx → EReal := V m c main_arg1
abbrev wscaleArr (c : Dev nD) : S20x76.Idx → EReal := V m c main_arg2

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel

/-- Each block is its whole array. -/
theorem iblk0 (c : Dev nD) (t : Fin cfg0.N) : (iblk m c 0 t : S1536x9728.Idx → EReal) = dyArr m c :=
  funext fun y => by blk_ext [iblk, index0 t]
theorem iblk1 (c : Dev nD) (t : Fin cfg0.N) : (iblk m c 1 t : S2560x9728.Idx → EReal) = weightArr m c :=
  funext fun y => by blk_ext [iblk, index1 t]
theorem iblk2 (c : Dev nD) (t : Fin cfg0.N) : (iblk m c 2 t : S20x76.Idx → EReal) = wscaleArr m c :=
  funext fun y => by blk_ext [iblk, index2 t]

section Out
variable (x : S1536x9728.Idx → EReal) (w : S2560x9728.Idx → EReal) (s : S20x76.Idx → EReal) (h : ∀ j, max (x j) (-(x j)) ≤ big)
include h

/-- What the body leaves in each result's block. -/
theorem out3 (r : Fin 1536) (n : Fin 2560) :
    out0_3 (F := Ideal) x w s (ix2 r n) = dxAt (mat x) (fun n k => w (ix2 n k)) (fun a b => s (ix2 a b)) r n := by
  have e : out0_3 (F := Ideal) x w s = k0_pay1 (F := Ideal) (k0_pay6 x) (k0_pay7 w) s := by frame_out
  rw [e, pay1_apply]
  exact Finset.sum_congr rfl fun k _ => by rw [pay6_apply x h]

theorem out4 (r : Fin 1536) (k : Fin 9728) : out0_4 (F := Ideal) x w s (ix2 r k) = codeAt (mat x) r k := by
  have e : out0_4 (F := Ideal) x w s = k0_pay5 (F := Ideal) x := by frame_out
  rw [e, pay5_apply x h]

theorem out5 (r : Fin 1536) (g : Fin 76) : out0_5 (F := Ideal) x w s (ix2 r g) = scaleAt (mat x) r g := by
  have e : out0_5 (F := Ideal) x w s = k0_pay4 (F := Ideal) x := by frame_out
  rw [e, pay4_apply x h]
end Out

section Arrays
variable {m} {c : Dev nD} (h : ∀ j, max (dyArr m c j) (-(dyArr m c j)) ≤ big)
include h

theorem arr3 : (dats m 0 c).arrAt 3 cfg0.N
    = (fun i => dxAt (mat (dyArr m c)) (fun n k => weightArr m c (ix2 n k)) (fun a b => wscaleArr m c (ix2 a b)) (i 0) (i 1) : S1536x2560.Idx → EReal) := by
  refine Dat.arrAt_eq_of_covers _ 3 _ (by decide +kernel) fun t hf y => ?_
  have e0 : (((win0_3.blk t).view.emb y 0 : Fin 1536) : ℕ) = (y 0 : ℕ) := by blk_simp [index3 t]
  have e1 : (((win0_3.blk t).view.emb y 1 : Fin 2560) : ℕ) = (y 1 : ℕ) := by blk_simp [index3 t]
  blk_simp
  rw [after0_3]
  refine (congrArg (out0_3 (iblk m c 0 t) (iblk m c 1 t) (iblk m c 2 t)) (eq_ix2 (show S1536x2560.Idx from y))).trans ?_
  rw [iblk0, iblk1, iblk2]
  refine (out3 _ _ _ h (y 0) (y 1)).trans ?_
  exact congrArg₂ (dxAt _ _ _) (Fin.ext e0.symm) (Fin.ext e1.symm)

theorem arr4 : (dats m 0 c).arrAt 4 cfg0.N = (fun i => codeAt (mat (dyArr m c)) (i 0) (i 1) : S1536x9728.Idx → EReal) := by
  refine Dat.arrAt_eq_of_covers _ 4 _ (by decide +kernel) fun t hf y => ?_
  have e0 : (((win0_4.blk t).view.emb y 0 : Fin 1536) : ℕ) = (y 0 : ℕ) := by blk_simp [index4 t]
  have e1 : (((win0_4.blk t).view.emb y 1 : Fin 9728) : ℕ) = (y 1 : ℕ) := by blk_simp [index4 t]
  blk_simp
  rw [after0_4]
  refine (congrArg (out0_4 (iblk m c 0 t) (iblk m c 1 t) (iblk m c 2 t)) (eq_ix2 (show S1536x9728.Idx from y))).trans ?_
  rw [iblk0, iblk1, iblk2]
  refine (out4 _ _ _ h (y 0) (y 1)).trans ?_
  exact congrArg₂ (codeAt _) (Fin.ext e0.symm) (Fin.ext e1.symm)

theorem arr5 : (dats m 0 c).arrAt 5 cfg0.N = (fun i => scaleAt (mat (dyArr m c)) (i 0) (i 1) : S1536x76.Idx → EReal) := by
  refine Dat.arrAt_eq_of_covers _ 5 _ (by decide +kernel) fun t hf y => ?_
  have e0 : (((win0_5.blk t).view.emb y 0 : Fin 1536) : ℕ) = (y 0 : ℕ) := by blk_simp [index5 t]
  have e1 : (((win0_5.blk t).view.emb y 1 : Fin 76) : ℕ) = (y 1 : ℕ) := by blk_simp [index5 t]
  blk_simp
  rw [after0_5]
  refine (congrArg (out0_5 (iblk m c 0 t) (iblk m c 1 t) (iblk m c 2 t)) (eq_ix2 (show S1536x76.Idx from y))).trans ?_
  rw [iblk0, iblk1, iblk2]
  refine (out5 _ _ _ h (y 0) (y 1)).trans ?_
  exact congrArg₂ (scaleAt _) (Fin.ext e0.symm) (Fin.ext e1.symm)
end Arrays

end Cert.ReferenceIdeal.Hand

end
-- ==== Proof.Agree.lean ====
/-
  The kernel and the reference, from memories that hold the same arguments, leave the same three results, if every value of the gradient is
  within the finite range.
-/
module

public import proofs.«01_k».proof.Defs
public import proofs.«01_k».proof.Proof.KernelIdealResult
public import proofs.«01_k».proof.Proof.ReferenceIdealResult
public import Idealize.ShloMosaic.Lib.Claim
public import Idealize.ShloMosaic.Lib.ReduceAll

@[expose] public section

set_option maxRecDepth 16384

noncomputable section

namespace Cert.Agree

open Idealize.ShloMosaic Idealize.ShloMosaic.TcCoe
open Idealize.SL Idealize.SL.Sem
open Idealize.ShloMosaic.Pipeline (RDat)
open Cert.Quant Cert.Spec

/-- The precondition's side conditions. -/
theorem preFacts : Cert.Pre_dy_finite.Facts := ⟨by decide, by decide, by decide⟩

/-- The precondition, value by value. -/
theorem pre_apply [Cert.Pre_dy_finite.Facts] (x : FVec Ideal Cert.Pre_dy_finite.S12x128x9728 .bf16) (w : FVec Ideal Cert.Pre_dy_finite.S2560x9728 .fp8e4m3)
    (s : FVec Ideal Cert.Pre_dy_finite.S20x76 .f32) (h : Cert.Pre_dy_finite.fn (F := Ideal) x w s = fun _ => 1#1) (i : Cert.Pre_dy_finite.S12x128x9728.Idx) :
    max (x i) (-(x i)) ≤ big := by
  have e := congrFun h (fun a => a.elim0)
  dsimp only [Cert.Pre_dy_finite.fn] at e
  have e := Host.reduce_andi_all _ _ _ _ _ e i
  have e : BitVec.ofBool (decide (max (x i) (-(x i)) ≤ Ideal.ofBits .bf16 0x7F7F#16)) = 1#1 := e
  by_contra hn
  rw [decide_eq_false (p := max (x i) (-(x i)) ≤ Ideal.ofBits .bf16 0x7F7F#16) hn] at e
  exact absurd e (by decide)

section Kernel
open Cert.KernelIdeal Cert.KernelIdeal.Gen Cert.KernelIdeal.Hand
variable (m : (ℓ : Loc nD τ sig) → Buf (Elt Ideal) ℓ) (ρ : Dev nD → PrngReg)

theorem kernel_dy (c : Dev nD) : (V m c main_v0 : S1536x9728.Idx → EReal)
    = shapeCast S1536x9728 (m ((c.tc : Thread nD τ).loc main_arg0) : S12x128x9728.Idx → EReal) Facts₀.shapeCasts_S12x128x9728_S1536x9728 := by
  entry_read
  rfl

/-- What the kernel leaves. -/
theorem kernel_run : θ_run defs (onTc (τ := τ) (main (F := Ideal))) ⟨m, fun _ => 0, ρ⟩ (fun r => ∀ c : Dev nD,
      r.2.mem ((c.tc : Thread nD τ).loc main_v1_0) = (fun i => dxK m c (i 0) (i 1) : S1536x2560.Idx → EReal)
      ∧ r.2.mem ((c.tc : Thread nD τ).loc main_v1_1) = (fun i => codeK m c (i 0) (i 1) : S1536x9728.Idx → EReal)
      ∧ r.2.mem ((c.tc : Thread nD τ).loc main_v1_2) = (fun i => scaleK m c (i 0) (i 1) : S1536x76.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨after, hL, hA⟩ := RDat.FramePost.exists_exact h.1 c
    exact ⟨(hA 3).trans (arr3 after hL), (hA 4).trans (arr4 after hL), (hA 5).trans (arr5 after hL),
      ((h.1 c).2 main_arg0 (Pipeline.mem_restRefs_of main_arg0 (by decide) (by decide))).trans (V_main_arg0 m c),
      (RDat.FramePost.arr_in h.1 c 2 rfl).trans (V_main_arg1 m c),
      (RDat.FramePost.arr_in h.1 c 0 rfl).trans (V_main_arg2 m c)⟩) (run_value m ρ)
end Kernel

section Reference
open Cert.ReferenceIdeal Cert.ReferenceIdeal.Gen Cert.ReferenceIdeal.Hand
variable (m : (ℓ : Loc nD τ sig) → Buf (Elt Ideal) ℓ) (ρ : Dev nD → PrngReg)

theorem reference_dy (c : Dev nD) : dyArr m c
    = shapeCast S1536x9728 (m ((c.tc : Thread nD τ).loc main_arg0) : S12x128x9728.Idx → EReal) Facts₀.shapeCasts_S12x128x9728_S1536x9728 := by
  show V m c main_v0 = _
  entry_read
  rfl

/-- What the reference leaves. -/
theorem reference_run (hx : ∀ c j, max (dyArr m c j) (-(dyArr m c j)) ≤ big) :
    θ_run defs (onTc (τ := τ) (main (F := Ideal))) ⟨m, fun _ => 0, ρ⟩ (fun r => ∀ c : Dev nD,
      r.2.mem ((c.tc : Thread nD τ).loc main_v1_0)
        = (fun i => dxAt (mat (dyArr m c)) (fun n k => weightArr m c (ix2 n k)) (fun a b => wscaleArr m c (ix2 a b)) (i 0) (i 1) : S1536x2560.Idx → EReal)
      ∧ r.2.mem ((c.tc : Thread nD τ).loc main_v1_1) = (fun i => codeAt (mat (dyArr m c)) (i 0) (i 1) : S1536x9728.Idx → EReal)
      ∧ r.2.mem ((c.tc : Thread nD τ).loc main_v1_2) = (fun i => scaleAt (mat (dyArr m c)) (i 0) (i 1) : S1536x76.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1.out_eq c 3).trans (arr3 (hx c)), (h.1.out_eq c 4).trans (arr4 (hx c)), (h.1.out_eq c 5).trans (arr5 (hx c)), h.2 c⟩)
    (θ_run_and (run_main m ρ) (unchanged m ρ))
end Reference

open Cert.KernelIdeal.Hand in
theorem agree [Cert.Pre_dy_finite.Facts] : Cert.algebraic_KernelIdeal_ReferenceIdeal_pre_dy_finite
    (hKernelIdeal := Cert.KernelIdeal.Gen.facts) (hReferenceIdeal := Cert.ReferenceIdeal.Gen.facts) := by
  intro m g m' g' hpre hargs
  have hd : ∀ c : Dev Cert.KernelIdeal.nD, Cert.ReferenceIdeal.Hand.dyArr m' c = (Cert.KernelIdeal.Gen.V m c Cert.KernelIdeal.main_v0 : Cert.KernelIdeal.S1536x9728.Idx → EReal) := fun c => by
    rw [reference_dy, kernel_dy, (hargs c).1]
  have hw : ∀ c : Dev Cert.KernelIdeal.nD, Cert.ReferenceIdeal.Hand.weightArr m' c = (Cert.KernelIdeal.Gen.V m c Cert.KernelIdeal.main_arg1 : Cert.KernelIdeal.S2560x9728.Idx → EReal) := fun c =>
    (Cert.ReferenceIdeal.Gen.V_main_arg1 m' c).trans ((hargs c).2.1.trans (Cert.KernelIdeal.Gen.V_main_arg1 m c).symm)
  have hs : ∀ c : Dev Cert.KernelIdeal.nD, Cert.ReferenceIdeal.Hand.wscaleArr m' c = (Cert.KernelIdeal.Gen.V m c Cert.KernelIdeal.main_arg2 : Cert.KernelIdeal.S20x76.Idx → EReal) := fun c =>
    (Cert.ReferenceIdeal.Gen.V_main_arg2 m' c).trans ((hargs c).2.2.trans (Cert.KernelIdeal.Gen.V_main_arg2 m c).symm)
  refine ⟨fun c => (fun i => dxK m c (i 0) (i 1) : Cert.KernelIdeal.S1536x2560.Idx → EReal),
    fun c => (fun i => codeK m c (i 0) (i 1) : Cert.KernelIdeal.S1536x9728.Idx → EReal),
    fun c => (fun i => scaleK m c (i 0) (i 1) : Cert.KernelIdeal.S1536x76.Idx → EReal), kernel_run m g, ?_⟩
  have hx : ∀ (c : Dev Cert.ReferenceIdeal.nD) j, max (Cert.ReferenceIdeal.Hand.dyArr m' c j) (-(Cert.ReferenceIdeal.Hand.dyArr m' c j)) ≤ big := fun c j => by
    rw [reference_dy, (hargs c).1]
    exact pre_apply _ _ _ (hpre c) _
  refine (θ_run _ _ _).mono (fun _ h c => ?_) (reference_run m' g' hx)
  have h := h c
  rw [hd c, hw c, hs c] at h
  exact h

end Cert.Agree

end
-- ==== Proof.lean ====
/-
  The certificate's claim, assembled: the frames of the kernel at bits and at the extended reals, the reference's frame (generated),
  the idealisation, which rewrote nothing, and the agreement of the three results with the reference's over the extended reals where
  every element of dy lies within the finite range of its type.
-/
module

public import proofs.«01_k».proof.Defs
public import proofs.«01_k».proof.Proof.Gen.ReferenceIdeal.Frame
public import proofs.«01_k».proof.Proof.KernelFrame
public import proofs.«01_k».proof.Proof.KernelIdealFrame
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Agree.preFacts,
  fun m ρ _ => Cert.Kernel.Hand.frame_main (F := Bits) m ρ,
  fun m ρ _ => Cert.KernelIdeal.Hand.frame_main (F := Ideal) m ρ,
  fun m ρ _ => Cert.KernelIdeal.Hand.frame_main (F := Ideal) m ρ,
  fun m ρ _ => Cert.ReferenceIdeal.Gen.frame (F := Ideal) m ρ,
  fun m ρ _ => Cert.ReferenceIdeal.Gen.frame (F := Ideal) m ρ,
  trivial,
  @Cert.Agree.agree Cert.Agree.preFacts⟩

end Cert.Proof

end
